-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbReferenceIdeal (m : (ℓ : Loc Cert.QbReferenceIdeal.nD Cert.QbReferenceIdeal.τ Cert.QbReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Cq (m : (ℓ : Loc Cert.Cq.nD Cert.Cq.τ Cert.Cq.sig) → Buf (Elt Bits) ℓ) : Prop :=
  True

def Pre_CqIdeal (m : (ℓ : Loc Cert.CqIdeal.nD Cert.CqIdeal.τ Cert.CqIdeal.sig) → Buf (Elt Ideal) ℓ) : Prop :=
  True

def Pre_CqReferenceIdeal (m : (ℓ : Loc Cert.CqReferenceIdeal.nD Cert.CqReferenceIdeal.τ Cert.CqReferenceIdeal.sig) → Buf (Elt Ideal) ℓ) : Prop :=
  True

def Pre_Ckr (m : (ℓ : Loc Cert.Ckr.nD Cert.Ckr.τ Cert.Ckr.sig) → Buf (Elt Bits) ℓ) : Prop :=
  True

def Pre_CkrIdeal (m : (ℓ : Loc Cert.CkrIdeal.nD Cert.CkrIdeal.τ Cert.CkrIdeal.sig) → Buf (Elt Ideal) ℓ) : Prop :=
  True

def Pre_CkrReferenceIdeal (m : (ℓ : Loc Cert.CkrReferenceIdeal.nD Cert.CkrReferenceIdeal.τ Cert.CkrReferenceIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPReferenceIdeal (m : (ℓ : Loc Cert.FinalPReferenceIdeal.nD Cert.FinalPReferenceIdeal.τ Cert.FinalPReferenceIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSReferenceIdeal (m : (ℓ : Loc Cert.FinalSReferenceIdeal.nD Cert.FinalSReferenceIdeal.τ Cert.FinalSReferenceIdeal.sig) → Buf (Elt Ideal) ℓ) : Prop :=
  True

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpReferenceIdeal (m : (ℓ : Loc Cert.QpReferenceIdeal.nD Cert.QpReferenceIdeal.τ Cert.QpReferenceIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvReferenceIdeal (m : (ℓ : Loc Cert.UvReferenceIdeal.nD Cert.UvReferenceIdeal.τ Cert.UvReferenceIdeal.sig) → Buf (Elt Ideal) ℓ) : Prop :=
  True

def Pre_Km (m : (ℓ : Loc Cert.Km.nD Cert.Km.τ Cert.Km.sig) → Buf (Elt Bits) ℓ) : Prop :=
  True

def Pre_KmIdeal (m : (ℓ : Loc Cert.KmIdeal.nD Cert.KmIdeal.τ Cert.KmIdeal.sig) → Buf (Elt Ideal) ℓ) : Prop :=
  True

def Pre_KmReferenceIdeal (m : (ℓ : Loc Cert.KmReferenceIdeal.nD Cert.KmReferenceIdeal.τ Cert.KmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ r.2.sem = fun _ => 0)

def quiescent_QbReferenceIdeal [hQbReferenceIdeal : Cert.QbReferenceIdeal.Facts] : Prop :=
  ∀ (m : (ℓ : Loc Cert.QbReferenceIdeal.nD Cert.QbReferenceIdeal.τ Cert.QbReferenceIdeal.sig) → Buf (Elt Ideal) ℓ) (g : Dev Cert.QbReferenceIdeal.nD → PrngReg), Pre_QbReferenceIdeal m →
    θ_run (Cert.QbReferenceIdeal.defs (F := Ideal)) (onTc (τ := Cert.QbReferenceIdeal.τ) (Cert.QbReferenceIdeal.main (F := Ideal))) ⟨m, fun _ => 0, g⟩ (fun r => (∀ c : Dev Cert.QbReferenceIdeal.nD,
      r.2.mem ((c.tc : Thread Cert.QbReferenceIdeal.nD Cert.QbReferenceIdeal.τ).loc Cert.QbReferenceIdeal.main_arg0) = m ((c.tc : Thread Cert.QbReferenceIdeal.nD Cert.QbReferenceIdeal.τ).loc Cert.QbReferenceIdeal.main_arg0)
      ∧ r.2.mem ((c.tc : Thread Cert.QbReferenceIdeal.nD Cert.QbReferenceIdeal.τ).loc Cert.QbReferenceIdeal.main_arg1) = m ((c.tc : Thread Cert.QbReferenceIdeal.nD Cert.QbReferenceIdeal.τ).loc Cert.QbReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_Cq [hCq : Cert.Cq.Facts] : Prop :=
  ∀ (m : (ℓ : Loc Cert.Cq.nD Cert.Cq.τ Cert.Cq.sig) → Buf (Elt Bits) ℓ) (g : Dev Cert.Cq.nD → PrngReg), Pre_Cq m →
    θ_run (Cert.Cq.defs (F := Bits)) (onTc (τ := Cert.Cq.τ) (Cert.Cq.main (F := Bits))) ⟨m, fun _ => 0, g⟩ (fun r => (∀ c : Dev Cert.Cq.nD,
      r.2.mem ((c.tc : Thread Cert.Cq.nD Cert.Cq.τ).loc Cert.Cq.main_arg0) = m ((c.tc : Thread Cert.Cq.nD Cert.Cq.τ).loc Cert.Cq.main_arg0)
      ∧ r.2.mem ((c.tc : Thread Cert.Cq.nD Cert.Cq.τ).loc Cert.Cq.main_arg1) = m ((c.tc : Thread Cert.Cq.nD Cert.Cq.τ).loc Cert.Cq.main_arg1)
      ∧ r.2.mem ((c.tc : Thread Cert.Cq.nD Cert.Cq.τ).loc Cert.Cq.main_arg2) = m ((c.tc : Thread Cert.Cq.nD Cert.Cq.τ).loc Cert.Cq.main_arg2))
      ∧ r.2.sem = fun _ => 0)

def quiescent_CqIdeal [hCqIdeal : Cert.CqIdeal.Facts] : Prop :=
  ∀ (m : (ℓ : Loc Cert.CqIdeal.nD Cert.CqIdeal.τ Cert.CqIdeal.sig) → Buf (Elt Ideal) ℓ) (g : Dev Cert.CqIdeal.nD → PrngReg), Pre_CqIdeal m →
    θ_run (Cert.CqIdeal.defs (F := Ideal)) (onTc (τ := Cert.CqIdeal.τ) (Cert.CqIdeal.main (F := Ideal))) ⟨m, fun _ => 0, g⟩ (fun r => (∀ c : Dev Cert.CqIdeal.nD,
      r.2.mem ((c.tc : Thread Cert.CqIdeal.nD Cert.CqIdeal.τ).loc Cert.CqIdeal.main_arg0) = m ((c.tc : Thread Cert.CqIdeal.nD Cert.CqIdeal.τ).loc Cert.CqIdeal.main_arg0)
      ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
      ∧ r.2.mem ((c.tc : Thread Cert.CqIdeal.nD Cert.CqIdeal.τ).loc Cert.CqIdeal.main_arg2) = m ((c.tc : Thread Cert.CqIdeal.nD Cert.CqIdeal.τ).loc Cert.CqIdeal.main_arg2))
      ∧ r.2.sem = fun _ => 0)

def quiescent_CqReferenceIdeal [hCqReferenceIdeal : Cert.CqReferenceIdeal.Facts] : Prop :=
  ∀ (m : (ℓ : Loc Cert.CqReferenceIdeal.nD Cert.CqReferenceIdeal.τ Cert.CqReferenceIdeal.sig) → Buf (Elt Ideal) ℓ) (g : Dev Cert.CqReferenceIdeal.nD → PrngReg), Pre_CqReferenceIdeal m →
    θ_run (Cert.CqReferenceIdeal.defs (F := Ideal)) (onTc (τ := Cert.CqReferenceIdeal.τ) (Cert.CqReferenceIdeal.main (F := Ideal))) ⟨m, fun _ => 0, g⟩ (fun r => (∀ c : Dev Cert.CqReferenceIdeal.nD,
      r.2.mem ((c.tc : Thread Cert.CqReferenceIdeal.nD Cert.CqReferenceIdeal.τ).loc Cert.CqReferenceIdeal.main_arg0) = m ((c.tc : Thread Cert.CqReferenceIdeal.nD Cert.CqReferenceIdeal.τ).loc Cert.CqReferenceIdeal.main_arg0)
      ∧ r.2.mem ((c.tc : Thread Cert.CqReferenceIdeal.nD Cert.CqReferenceIdeal.τ).loc Cert.CqReferenceIdeal.main_arg1) = m ((c.tc : Thread Cert.CqReferenceIdeal.nD Cert.CqReferenceIdeal.τ).loc Cert.CqReferenceIdeal.main_arg1)
      ∧ r.2.mem ((c.tc : Thread Cert.CqReferenceIdeal.nD Cert.CqReferenceIdeal.τ).loc Cert.CqReferenceIdeal.main_arg2) = m ((c.tc : Thread Cert.CqReferenceIdeal.nD Cert.CqReferenceIdeal.τ).loc Cert.CqReferenceIdeal.main_arg2))
      ∧ r.2.sem = fun _ => 0)

def quiescent_Ckr [hCkr : Cert.Ckr.Facts] : Prop :=
  ∀ (m : (ℓ : Loc Cert.Ckr.nD Cert.Ckr.τ Cert.Ckr.sig) → Buf (Elt Bits) ℓ) (g : Dev Cert.Ckr.nD → PrngReg), Pre_Ckr m →
    θ_run (Cert.Ckr.defs (F := Bits)) (onTc (τ := Cert.Ckr.τ) (Cert.Ckr.main (F := Bits))) ⟨m, fun _ => 0, g⟩ (fun r => (∀ c : Dev Cert.Ckr.nD,
      r.2.mem ((c.tc : Thread Cert.Ckr.nD Cert.Ckr.τ).loc Cert.Ckr.main_arg0) = m ((c.tc : Thread Cert.Ckr.nD Cert.Ckr.τ).loc Cert.Ckr.main_arg0)
      ∧ r.2.mem ((c.tc : Thread Cert.Ckr.nD Cert.Ckr.τ).loc Cert.Ckr.main_arg1) = m ((c.tc : Thread Cert.Ckr.nD Cert.Ckr.τ).loc Cert.Ckr.main_arg1)
      ∧ r.2.mem ((c.tc : Thread Cert.Ckr.nD Cert.Ckr.τ).loc Cert.Ckr.main_arg2) = m ((c.tc : Thread Cert.Ckr.nD Cert.Ckr.τ).loc Cert.Ckr.main_arg2)
      ∧ r.2.mem ((c.tc : Thread Cert.Ckr.nD Cert.Ckr.τ).loc Cert.Ckr.main_arg3) = m ((c.tc : Thread Cert.Ckr.nD Cert.Ckr.τ).loc Cert.Ckr.main_arg3))
      ∧ r.2.sem = fun _ => 0)

def quiescent_CkrIdeal [hCkrIdeal : Cert.CkrIdeal.Facts] : Prop :=
  ∀ (m : (ℓ : Loc Cert.CkrIdeal.nD Cert.CkrIdeal.τ Cert.CkrIdeal.sig) → Buf (Elt Ideal) ℓ) (g : Dev Cert.CkrIdeal.nD → PrngReg), Pre_CkrIdeal m →
    θ_run (Cert.CkrIdeal.defs (F := Ideal)) (onTc (τ := Cert.CkrIdeal.τ) (Cert.CkrIdeal.main (F := Ideal))) ⟨m, fun _ => 0, g⟩ (fun r => (∀ c : Dev Cert.CkrIdeal.nD,
      r.2.mem ((c.tc : Thread Cert.CkrIdeal.nD Cert.CkrIdeal.τ).loc Cert.CkrIdeal.main_arg0) = m ((c.tc : Thread Cert.CkrIdeal.nD Cert.CkrIdeal.τ).loc Cert.CkrIdeal.main_arg0)
      ∧ r.2.mem ((c.tc : Thread Cert.CkrIdeal.nD Cert.CkrIdeal.τ).loc Cert.CkrIdeal.main_arg1) = m ((c.tc : Thread Cert.CkrIdeal.nD Cert.CkrIdeal.τ).loc Cert.CkrIdeal.main_arg1)
      ∧ r.2.mem ((c.tc : Thread Cert.CkrIdeal.nD Cert.CkrIdeal.τ).loc Cert.CkrIdeal.main_arg2) = m ((c.tc : Thread Cert.CkrIdeal.nD Cert.CkrIdeal.τ).loc Cert.CkrIdeal.main_arg2)
      ∧ r.2.mem ((c.tc : Thread Cert.CkrIdeal.nD Cert.CkrIdeal.τ).loc Cert.CkrIdeal.main_arg3) = m ((c.tc : Thread Cert.CkrIdeal.nD Cert.CkrIdeal.τ).loc Cert.CkrIdeal.main_arg3))
      ∧ r.2.sem = fun _ => 0)

def quiescent_CkrReferenceIdeal [hCkrReferenceIdeal : Cert.CkrReferenceIdeal.Facts] : Prop :=
  ∀ (m : (ℓ : Loc Cert.CkrReferenceIdeal.nD Cert.CkrReferenceIdeal.τ Cert.CkrReferenceIdeal.sig) → Buf (Elt Ideal) ℓ) (g : Dev Cert.CkrReferenceIdeal.nD → PrngReg), Pre_CkrReferenceIdeal m →
    θ_run (Cert.CkrReferenceIdeal.defs (F := Ideal)) (onTc (τ := Cert.CkrReferenceIdeal.τ) (Cert.CkrReferenceIdeal.main (F := Ideal))) ⟨m, fun _ => 0, g⟩ (fun r => (∀ c : Dev Cert.CkrReferenceIdeal.nD,
      r.2.mem ((c.tc : Thread Cert.CkrReferenceIdeal.nD Cert.CkrReferenceIdeal.τ).loc Cert.CkrReferenceIdeal.main_arg0) = m ((c.tc : Thread Cert.CkrReferenceIdeal.nD Cert.CkrReferenceIdeal.τ).loc Cert.CkrReferenceIdeal.main_arg0)
      ∧ r.2.mem ((c.tc : Thread Cert.CkrReferenceIdeal.nD Cert.CkrReferenceIdeal.τ).loc Cert.CkrReferenceIdeal.main_arg1) = m ((c.tc : Thread Cert.CkrReferenceIdeal.nD Cert.CkrReferenceIdeal.τ).loc Cert.CkrReferenceIdeal.main_arg1)
      ∧ r.2.mem ((c.tc : Thread Cert.CkrReferenceIdeal.nD Cert.CkrReferenceIdeal.τ).loc Cert.CkrReferenceIdeal.main_arg2) = m ((c.tc : Thread Cert.CkrReferenceIdeal.nD Cert.CkrReferenceIdeal.τ).loc Cert.CkrReferenceIdeal.main_arg2)
      ∧ r.2.mem ((c.tc : Thread Cert.CkrReferenceIdeal.nD Cert.CkrReferenceIdeal.τ).loc Cert.CkrReferenceIdeal.main_arg3) = m ((c.tc : Thread Cert.CkrReferenceIdeal.nD Cert.CkrReferenceIdeal.τ).loc Cert.CkrReferenceIdeal.main_arg3))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1)
      ∧ r.2.mem ((c.tc : Thread Cert.FinalP.nD Cert.FinalP.τ).loc Cert.FinalP.main_arg2) = m ((c.tc : Thread Cert.FinalP.nD Cert.FinalP.τ).loc Cert.FinalP.main_arg2))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
      ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ r.2.sem = fun _ => 0)

def quiescent_FinalPReferenceIdeal [hFinalPReferenceIdeal : Cert.FinalPReferenceIdeal.Facts] : Prop :=
  ∀ (m : (ℓ : Loc Cert.FinalPReferenceIdeal.nD Cert.FinalPReferenceIdeal.τ Cert.FinalPReferenceIdeal.sig) → Buf (Elt Ideal) ℓ) (g : Dev Cert.FinalPReferenceIdeal.nD → PrngReg), Pre_FinalPReferenceIdeal m →
    θ_run (Cert.FinalPReferenceIdeal.defs (F := Ideal)) (onTc (τ := Cert.FinalPReferenceIdeal.τ) (Cert.FinalPReferenceIdeal.main (F := Ideal))) ⟨m, fun _ => 0, g⟩ (fun r => (∀ c : Dev Cert.FinalPReferenceIdeal.nD,
      r.2.mem ((c.tc : Thread Cert.FinalPReferenceIdeal.nD Cert.FinalPReferenceIdeal.τ).loc Cert.FinalPReferenceIdeal.main_arg0) = m ((c.tc : Thread Cert.FinalPReferenceIdeal.nD Cert.FinalPReferenceIdeal.τ).loc Cert.FinalPReferenceIdeal.main_arg0)
      ∧ r.2.mem ((c.tc : Thread Cert.FinalPReferenceIdeal.nD Cert.FinalPReferenceIdeal.τ).loc Cert.FinalPReferenceIdeal.main_arg1) = m ((c.tc : Thread Cert.FinalPReferenceIdeal.nD Cert.FinalPReferenceIdeal.τ).loc Cert.FinalPReferenceIdeal.main_arg1)
      ∧ r.2.mem ((c.tc : Thread Cert.FinalPReferenceIdeal.nD Cert.FinalPReferenceIdeal.τ).loc Cert.FinalPReferenceIdeal.main_arg2) = m ((c.tc : Thread Cert.FinalPReferenceIdeal.nD Cert.FinalPReferenceIdeal.τ).loc Cert.FinalPReferenceIdeal.main_arg2))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ r.2.sem = fun _ => 0)

def quiescent_FinalSReferenceIdeal [hFinalSReferenceIdeal : Cert.FinalSReferenceIdeal.Facts] : Prop :=
  ∀ (m : (ℓ : Loc Cert.FinalSReferenceIdeal.nD Cert.FinalSReferenceIdeal.τ Cert.FinalSReferenceIdeal.sig) → Buf (Elt Ideal) ℓ) (g : Dev Cert.FinalSReferenceIdeal.nD → PrngReg), Pre_FinalSReferenceIdeal m →
    θ_run (Cert.FinalSReferenceIdeal.defs (F := Ideal)) (onTc (τ := Cert.FinalSReferenceIdeal.τ) (Cert.FinalSReferenceIdeal.main (F := Ideal))) ⟨m, fun _ => 0, g⟩ (fun r => (∀ c : Dev Cert.FinalSReferenceIdeal.nD,
      r.2.mem ((c.tc : Thread Cert.FinalSReferenceIdeal.nD Cert.FinalSReferenceIdeal.τ).loc Cert.FinalSReferenceIdeal.main_arg0) = m ((c.tc : Thread Cert.FinalSReferenceIdeal.nD Cert.FinalSReferenceIdeal.τ).loc Cert.FinalSReferenceIdeal.main_arg0)
      ∧ r.2.mem ((c.tc : Thread Cert.FinalSReferenceIdeal.nD Cert.FinalSReferenceIdeal.τ).loc Cert.FinalSReferenceIdeal.main_arg1) = m ((c.tc : Thread Cert.FinalSReferenceIdeal.nD Cert.FinalSReferenceIdeal.τ).loc Cert.FinalSReferenceIdeal.main_arg1)
      ∧ r.2.mem ((c.tc : Thread Cert.FinalSReferenceIdeal.nD Cert.FinalSReferenceIdeal.τ).loc Cert.FinalSReferenceIdeal.main_arg2) = m ((c.tc : Thread Cert.FinalSReferenceIdeal.nD Cert.FinalSReferenceIdeal.τ).loc Cert.FinalSReferenceIdeal.main_arg2))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1)
      ∧ r.2.mem ((c.tc : Thread Cert.Qp.nD Cert.Qp.τ).loc Cert.Qp.main_arg2) = m ((c.tc : Thread Cert.Qp.nD Cert.Qp.τ).loc Cert.Qp.main_arg2)
      ∧ r.2.mem ((c.tc : Thread Cert.Qp.nD Cert.Qp.τ).loc Cert.Qp.main_arg3) = m ((c.tc : Thread Cert.Qp.nD Cert.Qp.τ).loc Cert.Qp.main_arg3))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
      ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
      ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ r.2.sem = fun _ => 0)

def quiescent_QpReferenceIdeal [hQpReferenceIdeal : Cert.QpReferenceIdeal.Facts] : Prop :=
  ∀ (m : (ℓ : Loc Cert.QpReferenceIdeal.nD Cert.QpReferenceIdeal.τ Cert.QpReferenceIdeal.sig) → Buf (Elt Ideal) ℓ) (g : Dev Cert.QpReferenceIdeal.nD → PrngReg), Pre_QpReferenceIdeal m →
    θ_run (Cert.QpReferenceIdeal.defs (F := Ideal)) (onTc (τ := Cert.QpReferenceIdeal.τ) (Cert.QpReferenceIdeal.main (F := Ideal))) ⟨m, fun _ => 0, g⟩ (fun r => (∀ c : Dev Cert.QpReferenceIdeal.nD,
      r.2.mem ((c.tc : Thread Cert.QpReferenceIdeal.nD Cert.QpReferenceIdeal.τ).loc Cert.QpReferenceIdeal.main_arg0) = m ((c.tc : Thread Cert.QpReferenceIdeal.nD Cert.QpReferenceIdeal.τ).loc Cert.QpReferenceIdeal.main_arg0)
      ∧ r.2.mem ((c.tc : Thread Cert.QpReferenceIdeal.nD Cert.QpReferenceIdeal.τ).loc Cert.QpReferenceIdeal.main_arg1) = m ((c.tc : Thread Cert.QpReferenceIdeal.nD Cert.QpReferenceIdeal.τ).loc Cert.QpReferenceIdeal.main_arg1)
      ∧ r.2.mem ((c.tc : Thread Cert.QpReferenceIdeal.nD Cert.QpReferenceIdeal.τ).loc Cert.QpReferenceIdeal.main_arg2) = m ((c.tc : Thread Cert.QpReferenceIdeal.nD Cert.QpReferenceIdeal.τ).loc Cert.QpReferenceIdeal.main_arg2)
      ∧ r.2.mem ((c.tc : Thread Cert.QpReferenceIdeal.nD Cert.QpReferenceIdeal.τ).loc Cert.QpReferenceIdeal.main_arg3) = m ((c.tc : Thread Cert.QpReferenceIdeal.nD Cert.QpReferenceIdeal.τ).loc Cert.QpReferenceIdeal.main_arg3))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvReferenceIdeal [hUvReferenceIdeal : Cert.UvReferenceIdeal.Facts] : Prop :=
  ∀ (m : (ℓ : Loc Cert.UvReferenceIdeal.nD Cert.UvReferenceIdeal.τ Cert.UvReferenceIdeal.sig) → Buf (Elt Ideal) ℓ) (g : Dev Cert.UvReferenceIdeal.nD → PrngReg), Pre_UvReferenceIdeal m →
    θ_run (Cert.UvReferenceIdeal.defs (F := Ideal)) (onTc (τ := Cert.UvReferenceIdeal.τ) (Cert.UvReferenceIdeal.main (F := Ideal))) ⟨m, fun _ => 0, g⟩ (fun r => (∀ c : Dev Cert.UvReferenceIdeal.nD,
      r.2.mem ((c.tc : Thread Cert.UvReferenceIdeal.nD Cert.UvReferenceIdeal.τ).loc Cert.UvReferenceIdeal.main_arg0) = m ((c.tc : Thread Cert.UvReferenceIdeal.nD Cert.UvReferenceIdeal.τ).loc Cert.UvReferenceIdeal.main_arg0)
      ∧ r.2.mem ((c.tc : Thread Cert.UvReferenceIdeal.nD Cert.UvReferenceIdeal.τ).loc Cert.UvReferenceIdeal.main_arg1) = m ((c.tc : Thread Cert.UvReferenceIdeal.nD Cert.UvReferenceIdeal.τ).loc Cert.UvReferenceIdeal.main_arg1))
      ∧ r.2.sem = fun _ => 0)

def quiescent_Km [hKm : Cert.Km.Facts] : Prop :=
  ∀ (m : (ℓ : Loc Cert.Km.nD Cert.Km.τ Cert.Km.sig) → Buf (Elt Bits) ℓ) (g : Dev Cert.Km.nD → PrngReg), Pre_Km m →
    θ_run (Cert.Km.defs (F := Bits)) (onTc (τ := Cert.Km.τ) (Cert.Km.main (F := Bits))) ⟨m, fun _ => 0, g⟩ (fun r => (∀ c : Dev Cert.Km.nD,
      r.2.mem ((c.tc : Thread Cert.Km.nD Cert.Km.τ).loc Cert.Km.main_arg0) = m ((c.tc : Thread Cert.Km.nD Cert.Km.τ).loc Cert.Km.main_arg0))
      ∧ r.2.sem = fun _ => 0)

def quiescent_KmIdeal [hKmIdeal : Cert.KmIdeal.Facts] : Prop :=
  ∀ (m : (ℓ : Loc Cert.KmIdeal.nD Cert.KmIdeal.τ Cert.KmIdeal.sig) → Buf (Elt Ideal) ℓ) (g : Dev Cert.KmIdeal.nD → PrngReg), Pre_KmIdeal m →
    θ_run (Cert.KmIdeal.defs (F := Ideal)) (onTc (τ := Cert.KmIdeal.τ) (Cert.KmIdeal.main (F := Ideal))) ⟨m, fun _ => 0, g⟩ (fun r => (∀ c : Dev Cert.KmIdeal.nD,
      r.2.mem ((c.tc : Thread Cert.KmIdeal.nD Cert.KmIdeal.τ).loc Cert.KmIdeal.main_arg0) = m ((c.tc : Thread Cert.KmIdeal.nD Cert.KmIdeal.τ).loc Cert.KmIdeal.main_arg0))
      ∧ r.2.sem = fun _ => 0)

def quiescent_KmReferenceIdeal [hKmReferenceIdeal : Cert.KmReferenceIdeal.Facts] : Prop :=
  ∀ (m : (ℓ : Loc Cert.KmReferenceIdeal.nD Cert.KmReferenceIdeal.τ Cert.KmReferenceIdeal.sig) → Buf (Elt Ideal) ℓ) (g : Dev Cert.KmReferenceIdeal.nD → PrngReg), Pre_KmReferenceIdeal m →
    θ_run (Cert.KmReferenceIdeal.defs (F := Ideal)) (onTc (τ := Cert.KmReferenceIdeal.τ) (Cert.KmReferenceIdeal.main (F := Ideal))) ⟨m, fun _ => 0, g⟩ (fun r => (∀ c : Dev Cert.KmReferenceIdeal.nD,
      r.2.mem ((c.tc : Thread Cert.KmReferenceIdeal.nD Cert.KmReferenceIdeal.τ).loc Cert.KmReferenceIdeal.main_arg0) = m ((c.tc : Thread Cert.KmReferenceIdeal.nD Cert.KmReferenceIdeal.τ).loc Cert.KmReferenceIdeal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale2" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v7) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v7) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v1) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Qb_QbIdeal : Prop :=
  True

def algebraic_QbIdeal_QbReferenceIdeal [hQbIdeal : Cert.QbIdeal.Facts] [hQbReferenceIdeal : Cert.QbReferenceIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbReferenceIdeal.nD Cert.QbReferenceIdeal.τ Cert.QbReferenceIdeal.sig) → Buf (Elt Ideal) ℓ) (g' : Dev Cert.QbReferenceIdeal.nD → PrngReg), Pre_QbIdeal m →
    (∀ c : Dev Cert.QbIdeal.nD,
      m' ((c.tc : Thread Cert.QbReferenceIdeal.nD Cert.QbReferenceIdeal.τ).loc Cert.QbReferenceIdeal.main_arg0) = m ((c.tc : Thread Cert.QbIdeal.nD Cert.QbIdeal.τ).loc Cert.QbIdeal.main_arg0)
      ∧ m' ((c.tc : Thread Cert.QbReferenceIdeal.nD Cert.QbReferenceIdeal.τ).loc Cert.QbReferenceIdeal.main_arg1) = m ((c.tc : Thread Cert.QbIdeal.nD Cert.QbIdeal.τ).loc Cert.QbIdeal.main_arg1)) →
    ∃ (v0 : (c : Dev Cert.QbIdeal.nD) → Buf (Elt Ideal) ((c.tc : Thread Cert.QbIdeal.nD Cert.QbIdeal.τ).loc Cert.QbIdeal.main_v2)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v2) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ θ_run (Cert.QbReferenceIdeal.defs (F := Ideal)) (onTc (τ := Cert.QbReferenceIdeal.τ) (Cert.QbReferenceIdeal.main (F := Ideal))) ⟨m', fun _ => 0, g'⟩ (fun r => ∀ c : Dev Cert.QbReferenceIdeal.nD,
          r.2.mem ((c.tc : Thread Cert.QbReferenceIdeal.nD Cert.QbReferenceIdeal.τ).loc Cert.QbReferenceIdeal.main_v1) = v0 c
          ∧ r.2.mem ((c.tc : Thread Cert.QbReferenceIdeal.nD Cert.QbReferenceIdeal.τ).loc Cert.QbReferenceIdeal.main_arg0) = m' ((c.tc : Thread Cert.QbReferenceIdeal.nD Cert.QbReferenceIdeal.τ).loc Cert.QbReferenceIdeal.main_arg0)
          ∧ r.2.mem ((c.tc : Thread Cert.QbReferenceIdeal.nD Cert.QbReferenceIdeal.τ).loc Cert.QbReferenceIdeal.main_arg1) = m' ((c.tc : Thread Cert.QbReferenceIdeal.nD Cert.QbReferenceIdeal.τ).loc Cert.QbReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v0) = v0 c
          ∧ r.2.mem ((c.tc : Thread Cert.KvReferenceIdeal.nD Cert.KvReferenceIdeal.τ).loc Cert.KvReferenceIdeal.main_v1) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_Cq_CqIdeal : Prop :=
  True

def algebraic_CqIdeal_CqReferenceIdeal [hCqIdeal : Cert.CqIdeal.Facts] [hCqReferenceIdeal : Cert.CqReferenceIdeal.Facts] : Prop :=
  ∀ (m : (ℓ : Loc Cert.CqIdeal.nD Cert.CqIdeal.τ Cert.CqIdeal.sig) → Buf (Elt Ideal) ℓ) (g : Dev Cert.CqIdeal.nD → PrngReg)
    (m' : (ℓ : Loc Cert.CqReferenceIdeal.nD Cert.CqReferenceIdeal.τ Cert.CqReferenceIdeal.sig) → Buf (Elt Ideal) ℓ) (g' : Dev Cert.CqReferenceIdeal.nD → PrngReg), Pre_CqIdeal m →
    (∀ c : Dev Cert.CqIdeal.nD,
      m' ((c.tc : Thread Cert.CqReferenceIdeal.nD Cert.CqReferenceIdeal.τ).loc Cert.CqReferenceIdeal.main_arg0) = m ((c.tc : Thread Cert.CqIdeal.nD Cert.CqIdeal.τ).loc Cert.CqIdeal.main_arg0)
      ∧ m' ((c.tc : Thread Cert.CqReferenceIdeal.nD Cert.CqReferenceIdeal.τ).loc Cert.CqReferenceIdeal.main_arg1) = m ((c.tc : Thread Cert.CqIdeal.nD Cert.CqIdeal.τ).loc Cert.CqIdeal.main_arg1)
      ∧ m' ((c.tc : Thread Cert.CqReferenceIdeal.nD Cert.CqReferenceIdeal.τ).loc Cert.CqReferenceIdeal.main_arg2) = m ((c.tc : Thread Cert.CqIdeal.nD Cert.CqIdeal.τ).loc Cert.CqIdeal.main_arg2)) →
    ∃ (v0 : (c : Dev Cert.CqIdeal.nD) → Buf (Elt Ideal) ((c.tc : Thread Cert.CqIdeal.nD Cert.CqIdeal.τ).loc Cert.CqIdeal.main_v3)),
      θ_run (Cert.CqIdeal.defs (F := Ideal)) (onTc (τ := Cert.CqIdeal.τ) (Cert.CqIdeal.main (F := Ideal))) ⟨m, fun _ => 0, g⟩ (fun r => ∀ c : Dev Cert.CqIdeal.nD,
          r.2.mem ((c.tc : Thread Cert.CqIdeal.nD Cert.CqIdeal.τ).loc Cert.CqIdeal.main_v3) = v0 c
          ∧ r.2.mem ((c.tc : Thread Cert.CqIdeal.nD Cert.CqIdeal.τ).loc Cert.CqIdeal.main_arg0) = m ((c.tc : Thread Cert.CqIdeal.nD Cert.CqIdeal.τ).loc Cert.CqIdeal.main_arg0)
          ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
          ∧ r.2.mem ((c.tc : Thread Cert.CqIdeal.nD Cert.CqIdeal.τ).loc Cert.CqIdeal.main_arg2) = m ((c.tc : Thread Cert.CqIdeal.nD Cert.CqIdeal.τ).loc Cert.CqIdeal.main_arg2))
      ∧ θ_run (Cert.CqReferenceIdeal.defs (F := Ideal)) (onTc (τ := Cert.CqReferenceIdeal.τ) (Cert.CqReferenceIdeal.main (F := Ideal))) ⟨m', fun _ => 0, g'⟩ (fun r => ∀ c : Dev Cert.CqReferenceIdeal.nD,
          r.2.mem ((c.tc : Thread Cert.CqReferenceIdeal.nD Cert.CqReferenceIdeal.τ).loc Cert.CqReferenceIdeal.main_v14) = v0 c
          ∧ r.2.mem ((c.tc : Thread Cert.CqReferenceIdeal.nD Cert.CqReferenceIdeal.τ).loc Cert.CqReferenceIdeal.main_arg0) = m' ((c.tc : Thread Cert.CqReferenceIdeal.nD Cert.CqReferenceIdeal.τ).loc Cert.CqReferenceIdeal.main_arg0)
          ∧ r.2.mem ((c.tc : Thread Cert.CqReferenceIdeal.nD Cert.CqReferenceIdeal.τ).loc Cert.CqReferenceIdeal.main_arg1) = m' ((c.tc : Thread Cert.CqReferenceIdeal.nD Cert.CqReferenceIdeal.τ).loc Cert.CqReferenceIdeal.main_arg1)
          ∧ r.2.mem ((c.tc : Thread Cert.CqReferenceIdeal.nD Cert.CqReferenceIdeal.τ).loc Cert.CqReferenceIdeal.main_arg2) = m' ((c.tc : Thread Cert.CqReferenceIdeal.nD Cert.CqReferenceIdeal.τ).loc Cert.CqReferenceIdeal.main_arg2))

def preserves_Ckr_CkrIdeal : Prop :=
  True

def algebraic_CkrIdeal_CkrReferenceIdeal [hCkrIdeal : Cert.CkrIdeal.Facts] [hCkrReferenceIdeal : Cert.CkrReferenceIdeal.Facts] : Prop :=
  ∀ (m : (ℓ : Loc Cert.CkrIdeal.nD Cert.CkrIdeal.τ Cert.CkrIdeal.sig) → Buf (Elt Ideal) ℓ) (g : Dev Cert.CkrIdeal.nD → PrngReg)
    (m' : (ℓ : Loc Cert.CkrReferenceIdeal.nD Cert.CkrReferenceIdeal.τ Cert.CkrReferenceIdeal.sig) → Buf (Elt Ideal) ℓ) (g' : Dev Cert.CkrReferenceIdeal.nD → PrngReg), Pre_CkrIdeal m →
    (∀ c : Dev Cert.CkrIdeal.nD,
      m' ((c.tc : Thread Cert.CkrReferenceIdeal.nD Cert.CkrReferenceIdeal.τ).loc Cert.CkrReferenceIdeal.main_arg0) = m ((c.tc : Thread Cert.CkrIdeal.nD Cert.CkrIdeal.τ).loc Cert.CkrIdeal.main_arg0)
      ∧ m' ((c.tc : Thread Cert.CkrReferenceIdeal.nD Cert.CkrReferenceIdeal.τ).loc Cert.CkrReferenceIdeal.main_arg1) = m ((c.tc : Thread Cert.CkrIdeal.nD Cert.CkrIdeal.τ).loc Cert.CkrIdeal.main_arg1)
      ∧ m' ((c.tc : Thread Cert.CkrReferenceIdeal.nD Cert.CkrReferenceIdeal.τ).loc Cert.CkrReferenceIdeal.main_arg2) = m ((c.tc : Thread Cert.CkrIdeal.nD Cert.CkrIdeal.τ).loc Cert.CkrIdeal.main_arg2)
      ∧ m' ((c.tc : Thread Cert.CkrReferenceIdeal.nD Cert.CkrReferenceIdeal.τ).loc Cert.CkrReferenceIdeal.main_arg3) = m ((c.tc : Thread Cert.CkrIdeal.nD Cert.CkrIdeal.τ).loc Cert.CkrIdeal.main_arg3)) →
    ∃ (v0 : (c : Dev Cert.CkrIdeal.nD) → Buf (Elt Ideal) ((c.tc : Thread Cert.CkrIdeal.nD Cert.CkrIdeal.τ).loc Cert.CkrIdeal.main_v24_0)) (v1 : (c : Dev Cert.CkrIdeal.nD) → Buf (Elt Ideal) ((c.tc : Thread Cert.CkrIdeal.nD Cert.CkrIdeal.τ).loc Cert.CkrIdeal.main_v24_1)),
      θ_run (Cert.CkrIdeal.defs (F := Ideal)) (onTc (τ := Cert.CkrIdeal.τ) (Cert.CkrIdeal.main (F := Ideal))) ⟨m, fun _ => 0, g⟩ (fun r => ∀ c : Dev Cert.CkrIdeal.nD,
          r.2.mem ((c.tc : Thread Cert.CkrIdeal.nD Cert.CkrIdeal.τ).loc Cert.CkrIdeal.main_v24_0) = v0 c
          ∧ r.2.mem ((c.tc : Thread Cert.CkrIdeal.nD Cert.CkrIdeal.τ).loc Cert.CkrIdeal.main_v24_1) = v1 c
          ∧ r.2.mem ((c.tc : Thread Cert.CkrIdeal.nD Cert.CkrIdeal.τ).loc Cert.CkrIdeal.main_arg0) = m ((c.tc : Thread Cert.CkrIdeal.nD Cert.CkrIdeal.τ).loc Cert.CkrIdeal.main_arg0)
          ∧ r.2.mem ((c.tc : Thread Cert.CkrIdeal.nD Cert.CkrIdeal.τ).loc Cert.CkrIdeal.main_arg1) = m ((c.tc : Thread Cert.CkrIdeal.nD Cert.CkrIdeal.τ).loc Cert.CkrIdeal.main_arg1)
          ∧ r.2.mem ((c.tc : Thread Cert.CkrIdeal.nD Cert.CkrIdeal.τ).loc Cert.CkrIdeal.main_arg2) = m ((c.tc : Thread Cert.CkrIdeal.nD Cert.CkrIdeal.τ).loc Cert.CkrIdeal.main_arg2)
          ∧ r.2.mem ((c.tc : Thread Cert.CkrIdeal.nD Cert.CkrIdeal.τ).loc Cert.CkrIdeal.main_arg3) = m ((c.tc : Thread Cert.CkrIdeal.nD Cert.CkrIdeal.τ).loc Cert.CkrIdeal.main_arg3))
      ∧ θ_run (Cert.CkrReferenceIdeal.defs (F := Ideal)) (onTc (τ := Cert.CkrReferenceIdeal.τ) (Cert.CkrReferenceIdeal.main (F := Ideal))) ⟨m', fun _ => 0, g'⟩ (fun r => ∀ c : Dev Cert.CkrReferenceIdeal.nD,
          r.2.mem ((c.tc : Thread Cert.CkrReferenceIdeal.nD Cert.CkrReferenceIdeal.τ).loc Cert.CkrReferenceIdeal.main_v39) = v0 c
          ∧ r.2.mem ((c.tc : Thread Cert.CkrReferenceIdeal.nD Cert.CkrReferenceIdeal.τ).loc Cert.CkrReferenceIdeal.main_v41) = v1 c
          ∧ r.2.mem ((c.tc : Thread Cert.CkrReferenceIdeal.nD Cert.CkrReferenceIdeal.τ).loc Cert.CkrReferenceIdeal.main_arg0) = m' ((c.tc : Thread Cert.CkrReferenceIdeal.nD Cert.CkrReferenceIdeal.τ).loc Cert.CkrReferenceIdeal.main_arg0)
          ∧ r.2.mem ((c.tc : Thread Cert.CkrReferenceIdeal.nD Cert.CkrReferenceIdeal.τ).loc Cert.CkrReferenceIdeal.main_arg1) = m' ((c.tc : Thread Cert.CkrReferenceIdeal.nD Cert.CkrReferenceIdeal.τ).loc Cert.CkrReferenceIdeal.main_arg1)
          ∧ r.2.mem ((c.tc : Thread Cert.CkrReferenceIdeal.nD Cert.CkrReferenceIdeal.τ).loc Cert.CkrReferenceIdeal.main_arg2) = m' ((c.tc : Thread Cert.CkrReferenceIdeal.nD Cert.CkrReferenceIdeal.τ).loc Cert.CkrReferenceIdeal.main_arg2)
          ∧ r.2.mem ((c.tc : Thread Cert.CkrReferenceIdeal.nD Cert.CkrReferenceIdeal.τ).loc Cert.CkrReferenceIdeal.main_arg3) = m' ((c.tc : Thread Cert.CkrReferenceIdeal.nD Cert.CkrReferenceIdeal.τ).loc Cert.CkrReferenceIdeal.main_arg3))

def preserves_FinalP_FinalPIdeal : Prop :=
  True

def algebraic_FinalPIdeal_FinalPReferenceIdeal [hFinalPIdeal : Cert.FinalPIdeal.Facts] [hFinalPReferenceIdeal : Cert.FinalPReferenceIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPReferenceIdeal.nD Cert.FinalPReferenceIdeal.τ Cert.FinalPReferenceIdeal.sig) → Buf (Elt Ideal) ℓ) (g' : Dev Cert.FinalPReferenceIdeal.nD → PrngReg), Pre_FinalPIdeal m →
    (∀ c : Dev Cert.FinalPIdeal.nD,
      m' ((c.tc : Thread Cert.FinalPReferenceIdeal.nD Cert.FinalPReferenceIdeal.τ).loc Cert.FinalPReferenceIdeal.main_arg0) = m ((c.tc : Thread Cert.FinalPIdeal.nD Cert.FinalPIdeal.τ).loc Cert.FinalPIdeal.main_arg0)
      ∧ m' ((c.tc : Thread Cert.FinalPReferenceIdeal.nD Cert.FinalPReferenceIdeal.τ).loc Cert.FinalPReferenceIdeal.main_arg1) = m ((c.tc : Thread Cert.FinalPIdeal.nD Cert.FinalPIdeal.τ).loc Cert.FinalPIdeal.main_arg1)
      ∧ m' ((c.tc : Thread Cert.FinalPReferenceIdeal.nD Cert.FinalPReferenceIdeal.τ).loc Cert.FinalPReferenceIdeal.main_arg2) = m ((c.tc : Thread Cert.FinalPIdeal.nD Cert.FinalPIdeal.τ).loc Cert.FinalPIdeal.main_arg2)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1)
          ∧ r.2.mem ((c.tc : Thread Cert.FinalPIdeal.nD Cert.FinalPIdeal.τ).loc Cert.FinalPIdeal.main_arg2) = m ((c.tc : Thread Cert.FinalPIdeal.nD Cert.FinalPIdeal.τ).loc Cert.FinalPIdeal.main_arg2))
      ∧ θ_run (Cert.FinalPReferenceIdeal.defs (F := Ideal)) (onTc (τ := Cert.FinalPReferenceIdeal.τ) (Cert.FinalPReferenceIdeal.main (F := Ideal))) ⟨m', fun _ => 0, g'⟩ (fun r => ∀ c : Dev Cert.FinalPReferenceIdeal.nD,
          r.2.mem ((c.tc : Thread Cert.FinalPReferenceIdeal.nD Cert.FinalPReferenceIdeal.τ).loc Cert.FinalPReferenceIdeal.main_v19) = v0 c
          ∧ r.2.mem ((c.tc : Thread Cert.FinalPReferenceIdeal.nD Cert.FinalPReferenceIdeal.τ).loc Cert.FinalPReferenceIdeal.main_arg0) = m' ((c.tc : Thread Cert.FinalPReferenceIdeal.nD Cert.FinalPReferenceIdeal.τ).loc Cert.FinalPReferenceIdeal.main_arg0)
          ∧ r.2.mem ((c.tc : Thread Cert.FinalPReferenceIdeal.nD Cert.FinalPReferenceIdeal.τ).loc Cert.FinalPReferenceIdeal.main_arg1) = m' ((c.tc : Thread Cert.FinalPReferenceIdeal.nD Cert.FinalPReferenceIdeal.τ).loc Cert.FinalPReferenceIdeal.main_arg1)
          ∧ r.2.mem ((c.tc : Thread Cert.FinalPReferenceIdeal.nD Cert.FinalPReferenceIdeal.τ).loc Cert.FinalPReferenceIdeal.main_arg2) = m' ((c.tc : Thread Cert.FinalPReferenceIdeal.nD Cert.FinalPReferenceIdeal.τ).loc Cert.FinalPReferenceIdeal.main_arg2))

def preserves_FinalS_FinalSIdeal : Prop :=
  True

def algebraic_FinalSIdeal_FinalSReferenceIdeal [hFinalSIdeal : Cert.FinalSIdeal.Facts] [hFinalSReferenceIdeal : Cert.FinalSReferenceIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSReferenceIdeal.nD Cert.FinalSReferenceIdeal.τ Cert.FinalSReferenceIdeal.sig) → Buf (Elt Ideal) ℓ) (g' : Dev Cert.FinalSReferenceIdeal.nD → PrngReg), Pre_FinalSIdeal m →
    (∀ c : Dev Cert.FinalSIdeal.nD,
      m' ((c.tc : Thread Cert.FinalSReferenceIdeal.nD Cert.FinalSReferenceIdeal.τ).loc Cert.FinalSReferenceIdeal.main_arg0) = m ((c.tc : Thread Cert.FinalSIdeal.nD Cert.FinalSIdeal.τ).loc Cert.FinalSIdeal.main_arg0)
      ∧ m' ((c.tc : Thread Cert.FinalSReferenceIdeal.nD Cert.FinalSReferenceIdeal.τ).loc Cert.FinalSReferenceIdeal.main_arg1) = m ((c.tc : Thread Cert.FinalSIdeal.nD Cert.FinalSIdeal.τ).loc Cert.FinalSIdeal.main_arg1)
      ∧ m' ((c.tc : Thread Cert.FinalSReferenceIdeal.nD Cert.FinalSReferenceIdeal.τ).loc Cert.FinalSReferenceIdeal.main_arg2) = m ((c.tc : Thread Cert.FinalSIdeal.nD Cert.FinalSIdeal.τ).loc Cert.FinalSIdeal.main_arg2)) →
    ∃ (v0 : (c : Dev Cert.FinalSIdeal.nD) → Buf (Elt Ideal) ((c.tc : Thread Cert.FinalSIdeal.nD Cert.FinalSIdeal.τ).loc Cert.FinalSIdeal.main_v1)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v1) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2))
      ∧ θ_run (Cert.FinalSReferenceIdeal.defs (F := Ideal)) (onTc (τ := Cert.FinalSReferenceIdeal.τ) (Cert.FinalSReferenceIdeal.main (F := Ideal))) ⟨m', fun _ => 0, g'⟩ (fun r => ∀ c : Dev Cert.FinalSReferenceIdeal.nD,
          r.2.mem ((c.tc : Thread Cert.FinalSReferenceIdeal.nD Cert.FinalSReferenceIdeal.τ).loc Cert.FinalSReferenceIdeal.main_v19) = v0 c
          ∧ r.2.mem ((c.tc : Thread Cert.FinalSReferenceIdeal.nD Cert.FinalSReferenceIdeal.τ).loc Cert.FinalSReferenceIdeal.main_arg0) = m' ((c.tc : Thread Cert.FinalSReferenceIdeal.nD Cert.FinalSReferenceIdeal.τ).loc Cert.FinalSReferenceIdeal.main_arg0)
          ∧ r.2.mem ((c.tc : Thread Cert.FinalSReferenceIdeal.nD Cert.FinalSReferenceIdeal.τ).loc Cert.FinalSReferenceIdeal.main_arg1) = m' ((c.tc : Thread Cert.FinalSReferenceIdeal.nD Cert.FinalSReferenceIdeal.τ).loc Cert.FinalSReferenceIdeal.main_arg1)
          ∧ r.2.mem ((c.tc : Thread Cert.FinalSReferenceIdeal.nD Cert.FinalSReferenceIdeal.τ).loc Cert.FinalSReferenceIdeal.main_arg2) = m' ((c.tc : Thread Cert.FinalSReferenceIdeal.nD Cert.FinalSReferenceIdeal.τ).loc Cert.FinalSReferenceIdeal.main_arg2))

def preserves_Qp_QpIdeal : Prop :=
  True

def algebraic_QpIdeal_QpReferenceIdeal [hQpIdeal : Cert.QpIdeal.Facts] [hQpReferenceIdeal : Cert.QpReferenceIdeal.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpReferenceIdeal.nD Cert.QpReferenceIdeal.τ Cert.QpReferenceIdeal.sig) → Buf (Elt Ideal) ℓ) (g' : Dev Cert.QpReferenceIdeal.nD → PrngReg), Pre_QpIdeal m →
    (∀ c : Dev Cert.QpIdeal.nD,
      m' ((c.tc : Thread Cert.QpReferenceIdeal.nD Cert.QpReferenceIdeal.τ).loc Cert.QpReferenceIdeal.main_arg0) = m ((c.tc : Thread Cert.QpIdeal.nD Cert.QpIdeal.τ).loc Cert.QpIdeal.main_arg0)
      ∧ m' ((c.tc : Thread Cert.QpReferenceIdeal.nD Cert.QpReferenceIdeal.τ).loc Cert.QpReferenceIdeal.main_arg1) = m ((c.tc : Thread Cert.QpIdeal.nD Cert.QpIdeal.τ).loc Cert.QpIdeal.main_arg1)
      ∧ m' ((c.tc : Thread Cert.QpReferenceIdeal.nD Cert.QpReferenceIdeal.τ).loc Cert.QpReferenceIdeal.main_arg2) = m ((c.tc : Thread Cert.QpIdeal.nD Cert.QpIdeal.τ).loc Cert.QpIdeal.main_arg2)
      ∧ m' ((c.tc : Thread Cert.QpReferenceIdeal.nD Cert.QpReferenceIdeal.τ).loc Cert.QpReferenceIdeal.main_arg3) = m ((c.tc : Thread Cert.QpIdeal.nD Cert.QpIdeal.τ).loc Cert.QpIdeal.main_arg3)) →
    ∃ (v0 : (c : Dev Cert.QpIdeal.nD) → Buf (Elt Ideal) ((c.tc : Thread Cert.QpIdeal.nD Cert.QpIdeal.τ).loc Cert.QpIdeal.main_v30)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v30) = v0 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1)
          ∧ r.2.mem ((c.tc : Thread Cert.QpIdeal.nD Cert.QpIdeal.τ).loc Cert.QpIdeal.main_arg2) = m ((c.tc : Thread Cert.QpIdeal.nD Cert.QpIdeal.τ).loc Cert.QpIdeal.main_arg2)
          ∧ r.2.mem ((c.tc : Thread Cert.QpIdeal.nD Cert.QpIdeal.τ).loc Cert.QpIdeal.main_arg3) = m ((c.tc : Thread Cert.QpIdeal.nD Cert.QpIdeal.τ).loc Cert.QpIdeal.main_arg3))
      ∧ θ_run (Cert.QpReferenceIdeal.defs (F := Ideal)) (onTc (τ := Cert.QpReferenceIdeal.τ) (Cert.QpReferenceIdeal.main (F := Ideal))) ⟨m', fun _ => 0, g'⟩ (fun r => ∀ c : Dev Cert.QpReferenceIdeal.nD,
          r.2.mem ((c.tc : Thread Cert.QpReferenceIdeal.nD Cert.QpReferenceIdeal.τ).loc Cert.QpReferenceIdeal.main_v36) = v0 c
          ∧ r.2.mem ((c.tc : Thread Cert.QpReferenceIdeal.nD Cert.QpReferenceIdeal.τ).loc Cert.QpReferenceIdeal.main_arg0) = m' ((c.tc : Thread Cert.QpReferenceIdeal.nD Cert.QpReferenceIdeal.τ).loc Cert.QpReferenceIdeal.main_arg0)
          ∧ r.2.mem ((c.tc : Thread Cert.QpReferenceIdeal.nD Cert.QpReferenceIdeal.τ).loc Cert.QpReferenceIdeal.main_arg1) = m' ((c.tc : Thread Cert.QpReferenceIdeal.nD Cert.QpReferenceIdeal.τ).loc Cert.QpReferenceIdeal.main_arg1)
          ∧ r.2.mem ((c.tc : Thread Cert.QpReferenceIdeal.nD Cert.QpReferenceIdeal.τ).loc Cert.QpReferenceIdeal.main_arg2) = m' ((c.tc : Thread Cert.QpReferenceIdeal.nD Cert.QpReferenceIdeal.τ).loc Cert.QpReferenceIdeal.main_arg2)
          ∧ r.2.mem ((c.tc : Thread Cert.QpReferenceIdeal.nD Cert.QpReferenceIdeal.τ).loc Cert.QpReferenceIdeal.main_arg3) = m' ((c.tc : Thread Cert.QpReferenceIdeal.nD Cert.QpReferenceIdeal.τ).loc Cert.QpReferenceIdeal.main_arg3))

def preserves_Uv_UvIdeal : Prop :=
  True

def algebraic_UvIdeal_UvReferenceIdeal [hUvIdeal : Cert.UvIdeal.Facts] [hUvReferenceIdeal : Cert.UvReferenceIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvReferenceIdeal.nD Cert.UvReferenceIdeal.τ Cert.UvReferenceIdeal.sig) → Buf (Elt Ideal) ℓ) (g' : Dev Cert.UvReferenceIdeal.nD → PrngReg), Pre_UvIdeal m →
    (∀ c : Dev Cert.UvIdeal.nD,
      m' ((c.tc : Thread Cert.UvReferenceIdeal.nD Cert.UvReferenceIdeal.τ).loc Cert.UvReferenceIdeal.main_arg0) = m ((c.tc : Thread Cert.UvIdeal.nD Cert.UvIdeal.τ).loc Cert.UvIdeal.main_arg0)
      ∧ m' ((c.tc : Thread Cert.UvReferenceIdeal.nD Cert.UvReferenceIdeal.τ).loc Cert.UvReferenceIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v4)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v4) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvReferenceIdeal.defs (F := Ideal)) (onTc (τ := Cert.UvReferenceIdeal.τ) (Cert.UvReferenceIdeal.main (F := Ideal))) ⟨m', fun _ => 0, g'⟩ (fun r => ∀ c : Dev Cert.UvReferenceIdeal.nD,
          r.2.mem ((c.tc : Thread Cert.UvReferenceIdeal.nD Cert.UvReferenceIdeal.τ).loc Cert.UvReferenceIdeal.main_v3) = v0 c
          ∧ r.2.mem ((c.tc : Thread Cert.UvReferenceIdeal.nD Cert.UvReferenceIdeal.τ).loc Cert.UvReferenceIdeal.main_arg0) = m' ((c.tc : Thread Cert.UvReferenceIdeal.nD Cert.UvReferenceIdeal.τ).loc Cert.UvReferenceIdeal.main_arg0)
          ∧ r.2.mem ((c.tc : Thread Cert.UvReferenceIdeal.nD Cert.UvReferenceIdeal.τ).loc Cert.UvReferenceIdeal.main_arg1) = m' ((c.tc : Thread Cert.UvReferenceIdeal.nD Cert.UvReferenceIdeal.τ).loc Cert.UvReferenceIdeal.main_arg1))

def preserves_Km_KmIdeal : Prop :=
  True

def algebraic_KmIdeal_KmReferenceIdeal [hKmIdeal : Cert.KmIdeal.Facts] [hKmReferenceIdeal : Cert.KmReferenceIdeal.Facts] : Prop :=
  ∀ (m : (ℓ : Loc Cert.KmIdeal.nD Cert.KmIdeal.τ Cert.KmIdeal.sig) → Buf (Elt Ideal) ℓ) (g : Dev Cert.KmIdeal.nD → PrngReg)
    (m' : (ℓ : Loc Cert.KmReferenceIdeal.nD Cert.KmReferenceIdeal.τ Cert.KmReferenceIdeal.sig) → Buf (Elt Ideal) ℓ) (g' : Dev Cert.KmReferenceIdeal.nD → PrngReg), Pre_KmIdeal m →
    (∀ c : Dev Cert.KmIdeal.nD,
      m' ((c.tc : Thread Cert.KmReferenceIdeal.nD Cert.KmReferenceIdeal.τ).loc Cert.KmReferenceIdeal.main_arg0) = m ((c.tc : Thread Cert.KmIdeal.nD Cert.KmIdeal.τ).loc Cert.KmIdeal.main_arg0)) →
    ∃ (v0 : (c : Dev Cert.KmIdeal.nD) → Buf (Elt Ideal) ((c.tc : Thread Cert.KmIdeal.nD Cert.KmIdeal.τ).loc Cert.KmIdeal.main_v0)),
      θ_run (Cert.KmIdeal.defs (F := Ideal)) (onTc (τ := Cert.KmIdeal.τ) (Cert.KmIdeal.main (F := Ideal))) ⟨m, fun _ => 0, g⟩ (fun r => ∀ c : Dev Cert.KmIdeal.nD,
          r.2.mem ((c.tc : Thread Cert.KmIdeal.nD Cert.KmIdeal.τ).loc Cert.KmIdeal.main_v0) = v0 c
          ∧ r.2.mem ((c.tc : Thread Cert.KmIdeal.nD Cert.KmIdeal.τ).loc Cert.KmIdeal.main_arg0) = m ((c.tc : Thread Cert.KmIdeal.nD Cert.KmIdeal.τ).loc Cert.KmIdeal.main_arg0))
      ∧ θ_run (Cert.KmReferenceIdeal.defs (F := Ideal)) (onTc (τ := Cert.KmReferenceIdeal.τ) (Cert.KmReferenceIdeal.main (F := Ideal))) ⟨m', fun _ => 0, g'⟩ (fun r => ∀ c : Dev Cert.KmReferenceIdeal.nD,
          r.2.mem ((c.tc : Thread Cert.KmReferenceIdeal.nD Cert.KmReferenceIdeal.τ).loc Cert.KmReferenceIdeal.main_v6) = v0 c
          ∧ r.2.mem ((c.tc : Thread Cert.KmReferenceIdeal.nD Cert.KmReferenceIdeal.τ).loc Cert.KmReferenceIdeal.main_arg0) = m' ((c.tc : Thread Cert.KmReferenceIdeal.nD Cert.KmReferenceIdeal.τ).loc Cert.KmReferenceIdeal.main_arg0))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hGates : Cert.Gates.Facts) (hGatesIdeal : Cert.GatesIdeal.Facts) (hGatesReferenceIdeal : Cert.GatesReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hQb : Cert.Qb.Facts) (hQbIdeal : Cert.QbIdeal.Facts) (hQbReferenceIdeal : Cert.QbReferenceIdeal.Facts) (hKv : Cert.Kv.Facts) (hKvIdeal : Cert.KvIdeal.Facts) (hKvReferenceIdeal : Cert.KvReferenceIdeal.Facts) (hCq : Cert.Cq.Facts) (hCqIdeal : Cert.CqIdeal.Facts) (hCqReferenceIdeal : Cert.CqReferenceIdeal.Facts) (hCkr : Cert.Ckr.Facts) (hCkrIdeal : Cert.CkrIdeal.Facts) (hCkrReferenceIdeal : Cert.CkrReferenceIdeal.Facts) (hFinalP : Cert.FinalP.Facts) (hFinalPIdeal : Cert.FinalPIdeal.Facts) (hFinalPReferenceIdeal : Cert.FinalPReferenceIdeal.Facts) (hFinalS : Cert.FinalS.Facts) (hFinalSIdeal : Cert.FinalSIdeal.Facts) (hFinalSReferenceIdeal : Cert.FinalSReferenceIdeal.Facts) (hQp : Cert.Qp.Facts) (hQpIdeal : Cert.QpIdeal.Facts) (hQpReferenceIdeal : Cert.QpReferenceIdeal.Facts) (hUv : Cert.Uv.Facts) (hUvIdeal : Cert.UvIdeal.Facts) (hUvReferenceIdeal : Cert.UvReferenceIdeal.Facts) (hKm : Cert.Km.Facts) (hKmIdeal : Cert.KmIdeal.Facts) (hKmReferenceIdeal : Cert.KmReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm (hNorm := hNorm)
    ∧ quiescent_NormIdeal (hNormIdeal := hNormIdeal)
    ∧ quiescent_NormReferenceIdeal (hNormReferenceIdeal := hNormReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Qb (hQb := hQb)
    ∧ quiescent_QbIdeal (hQbIdeal := hQbIdeal)
    ∧ quiescent_QbReferenceIdeal (hQbReferenceIdeal := hQbReferenceIdeal)
    ∧ quiescent_Kv (hKv := hKv)
    ∧ quiescent_KvIdeal (hKvIdeal := hKvIdeal)
    ∧ quiescent_KvReferenceIdeal (hKvReferenceIdeal := hKvReferenceIdeal)
    ∧ quiescent_Cq (hCq := hCq)
    ∧ quiescent_CqIdeal (hCqIdeal := hCqIdeal)
    ∧ quiescent_CqReferenceIdeal (hCqReferenceIdeal := hCqReferenceIdeal)
    ∧ quiescent_Ckr (hCkr := hCkr)
    ∧ quiescent_CkrIdeal (hCkrIdeal := hCkrIdeal)
    ∧ quiescent_CkrReferenceIdeal (hCkrReferenceIdeal := hCkrReferenceIdeal)
    ∧ quiescent_FinalP (hFinalP := hFinalP)
    ∧ quiescent_FinalPIdeal (hFinalPIdeal := hFinalPIdeal)
    ∧ quiescent_FinalPReferenceIdeal (hFinalPReferenceIdeal := hFinalPReferenceIdeal)
    ∧ quiescent_FinalS (hFinalS := hFinalS)
    ∧ quiescent_FinalSIdeal (hFinalSIdeal := hFinalSIdeal)
    ∧ quiescent_FinalSReferenceIdeal (hFinalSReferenceIdeal := hFinalSReferenceIdeal)
    ∧ quiescent_Qp (hQp := hQp)
    ∧ quiescent_QpIdeal (hQpIdeal := hQpIdeal)
    ∧ quiescent_QpReferenceIdeal (hQpReferenceIdeal := hQpReferenceIdeal)
    ∧ quiescent_Uv (hUv := hUv)
    ∧ quiescent_UvIdeal (hUvIdeal := hUvIdeal)
    ∧ quiescent_UvReferenceIdeal (hUvReferenceIdeal := hUvReferenceIdeal)
    ∧ quiescent_Km (hKm := hKm)
    ∧ quiescent_KmIdeal (hKmIdeal := hKmIdeal)
    ∧ quiescent_KmReferenceIdeal (hKmReferenceIdeal := hKmReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm_NormIdeal
    ∧ algebraic_NormIdeal_NormReferenceIdeal (hNormIdeal := hNormIdeal) (hNormReferenceIdeal := hNormReferenceIdeal)
    ∧ preserves_Gates_GatesIdeal
    ∧ algebraic_GatesIdeal_GatesReferenceIdeal (hGatesIdeal := hGatesIdeal) (hGatesReferenceIdeal := hGatesReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Qb_QbIdeal
    ∧ algebraic_QbIdeal_QbReferenceIdeal (hQbIdeal := hQbIdeal) (hQbReferenceIdeal := hQbReferenceIdeal)
    ∧ preserves_Kv_KvIdeal
    ∧ algebraic_KvIdeal_KvReferenceIdeal (hKvIdeal := hKvIdeal) (hKvReferenceIdeal := hKvReferenceIdeal)
    ∧ preserves_Cq_CqIdeal
    ∧ algebraic_CqIdeal_CqReferenceIdeal (hCqIdeal := hCqIdeal) (hCqReferenceIdeal := hCqReferenceIdeal)
    ∧ preserves_Ckr_CkrIdeal
    ∧ algebraic_CkrIdeal_CkrReferenceIdeal (hCkrIdeal := hCkrIdeal) (hCkrReferenceIdeal := hCkrReferenceIdeal)
    ∧ preserves_FinalP_FinalPIdeal
    ∧ algebraic_FinalPIdeal_FinalPReferenceIdeal (hFinalPIdeal := hFinalPIdeal) (hFinalPReferenceIdeal := hFinalPReferenceIdeal)
    ∧ preserves_FinalS_FinalSIdeal
    ∧ algebraic_FinalSIdeal_FinalSReferenceIdeal (hFinalSIdeal := hFinalSIdeal) (hFinalSReferenceIdeal := hFinalSReferenceIdeal)
    ∧ preserves_Qp_QpIdeal
    ∧ algebraic_QpIdeal_QpReferenceIdeal (hQpIdeal := hQpIdeal) (hQpReferenceIdeal := hQpReferenceIdeal)
    ∧ preserves_Uv_UvIdeal
    ∧ algebraic_UvIdeal_UvReferenceIdeal (hUvIdeal := hUvIdeal) (hUvReferenceIdeal := hUvReferenceIdeal)
    ∧ preserves_Km_KmIdeal
    ∧ algebraic_KmIdeal_KmReferenceIdeal (hKmIdeal := hKmIdeal) (hKmReferenceIdeal := hKmReferenceIdeal)
-- ==== Pre_finite.lean ====
abbrev S8704x16x512 : Shape := ⟨3, ![8704, 16, 512]⟩
abbrev S8704x16x64 : Shape := ⟨3, ![8704, 16, 64]⟩
abbrev S8704x576 : Shape := ⟨2, ![8704, 576]⟩
abbrev S512x16x128 : Shape := ⟨3, ![512, 16, 128]⟩
abbrev S_ : Shape := ⟨0, ![]⟩

class Facts : Prop where
  bcast_S_S8704x16x512 : S_.BroadcastsInDim S8704x16x512 (![] : Fin 0 → Fin S8704x16x512.rank)
  reducesTo_S8704x16x512_S_d0_1_2 : S8704x16x512.ReducesTo [0, 1, 2] S_
  h_S_ : 0 < S_.numel
  bcast_S_S8704x16x64 : S_.BroadcastsInDim S8704x16x64 (![] : Fin 0 → Fin S8704x16x64.rank)
  reducesTo_S8704x16x64_S_d0_1_2 : S8704x16x64.ReducesTo [0, 1, 2] S_
  bcast_S_S8704x576 : S_.BroadcastsInDim S8704x576 (![] : Fin 0 → Fin S8704x576.rank)
  reducesTo_S8704x576_S_d0_1 : S8704x576.ReducesTo [0, 1] S_
  bcast_S_S512x16x128 : S_.BroadcastsInDim S512x16x128 (![] : Fin 0 → Fin S512x16x128.rank)
  reducesTo_S512x16x128_S_d0_1_2 : S512x16x128.ReducesTo [0, 1, 2] S_

variable [Facts]

def fn_part1 {F : FTy → Type} [FloatOps F] (main_v13 : IVec S_ 1) (main_v16 : IVec S512x16x128 1) : IVec S_ 1 :=
  let main_c_5 : IVec S_ 1 := constantI S_ 1 1#1
  let main_v17 : IVec S_ 1 := (fun x v => Host.reduce IntOp.andi x v reducesTo_S512x16x128_S_d0_1_2 h_S_) main_v16 main_c_5
  let main_v18 : IVec S_ 1 := andi main_v13 main_v17
  main_v18

def fn {F : FTy → Type} [FloatOps F] (main_arg0 : FVec F S8704x16x512 .f32) (main_arg1 : FVec F S8704x16x64 .f32) (main_arg2 : FVec F S8704x576 .f32) (main_arg3 : FVec F S512x16x128 .f32) : IVec S_ 1 :=
  let main_v0 : FVec F S8704x16x512 .f32 := Host.absf main_arg0
  let main_cst : FVec F S_ .f32 := constant S_ .f32 0x7F800000#32
  let main_v1 : FVec F S8704x16x512 .f32 := broadcastInDim S8704x16x512 ![] bcast_S_S8704x16x512 main_cst
  let main_v2 : IVec S8704x16x512 1 := cmpf .olt main_v0 main_v1
  let main_c : IVec S_ 1 := constantI S_ 1 1#1
  let main_v3 : IVec S_ 1 := (fun x v => Host.reduce IntOp.andi x v reducesTo_S8704x16x512_S_d0_1_2 h_S_) main_v2 main_c
  let main_v4 : FVec F S8704x16x64 .f32 := Host.absf main_arg1
  let main_cst_0 : FVec F S_ .f32 := constant S_ .f32 0x7F800000#32
  let main_v5 : FVec F S8704x16x64 .f32 := broadcastInDim S8704x16x64 ![] bcast_S_S8704x16x64 main_cst_0
  let main_v6 : IVec S8704x16x64 1 := cmpf .olt main_v4 main_v5
  let main_c_1 : IVec S_ 1 := constantI S_ 1 1#1
  let main_v7 : IVec S_ 1 := (fun x v => Host.reduce IntOp.andi x v reducesTo_S8704x16x64_S_d0_1_2 h_S_) main_v6 main_c_1
  let main_v8 : IVec S_ 1 := andi main_v3 main_v7
  let main_v9 : FVec F S8704x576 .f32 := Host.absf main_arg2
  let main_cst_2 : FVec F S_ .f32 := constant S_ .f32 0x7F800000#32
  let main_v10 : FVec F S8704x576 .f32 := broadcastInDim S8704x576 ![] bcast_S_S8704x576 main_cst_2
  let main_v11 : IVec S8704x576 1 := cmpf .olt main_v9 main_v10
  let main_c_3 : IVec S_ 1 := constantI S_ 1 1#1
  let main_v12 : IVec S_ 1 := (fun x v => Host.reduce IntOp.andi x v reducesTo_S8704x576_S_d0_1 h_S_) main_v11 main_c_3
  let main_v13 : IVec S_ 1 := andi main_v8 main_v12
  let main_v14 : FVec F S512x16x128 .f32 := Host.absf main_arg3
  let main_cst_4 : FVec F S_ .f32 := constant S_ .f32 0x7F800000#32
  let main_v15 : FVec F S512x16x128 .f32 := broadcastInDim S512x16x128 ![] bcast_S_S512x16x128 main_cst_4
  let main_v16 : IVec S512x16x128 1 := cmpf .olt main_v14 main_v15
  fn_part1 (F := F) main_v13 main_v16
-- ==== Kernel.lean ====
abbrev S8704x16x512 : Shape := ⟨3, ![8704, 16, 512]⟩
abbrev S8704x16x64 : Shape := ⟨3, ![8704, 16, 64]⟩
abbrev S8704x576 : Shape := ⟨2, ![8704, 576]⟩
abbrev S512x16x128 : Shape := ⟨3, ![512, 16, 128]⟩
abbrev S8704x16x576 : Shape := ⟨3, ![8704, 16, 576]⟩
abbrev S_ : Shape := ⟨0, ![]⟩
abbrev S8704x16x640 : Shape := ⟨3, ![8704, 16, 640]⟩
abbrev S16x8704x640 : Shape := ⟨3, ![16, 8704, 640]⟩
abbrev S8704x640 : Shape := ⟨2, ![8704, 640]⟩
abbrev S16x512x128 : Shape := ⟨3, ![16, 512, 128]⟩
abbrev S8192x2048 : Shape := ⟨2, ![8192, 2048]⟩
abbrev S16x128x640 : Shape := ⟨3, ![16, 128, 640]⟩
abbrev S512x640 : Shape := ⟨2, ![512, 640]⟩
abbrev S128x2048 : Shape := ⟨2, ![128, 2048]⟩
abbrev S2048x128 : Shape := ⟨2, ![2048, 128]⟩
abbrev S2048x512 : Shape := ⟨2, ![2048, 512]⟩
abbrev S2048x640 : Shape := ⟨2, ![2048, 640]⟩
abbrev S512x512 : Shape := ⟨2, ![512, 512]⟩
abbrev S2048 : Shape := ⟨1, ![2048]⟩
abbrev S2048x1 : Shape := ⟨2, ![2048, 1]⟩
abbrev S128x512 : Shape := ⟨2, ![128, 512]⟩
abbrev S1x512x128 : Shape := ⟨3, ![1, 512, 128]⟩
abbrev S512x128 : Shape := ⟨2, ![512, 128]⟩
abbrev S128x128 : Shape := ⟨2, ![128, 128]⟩

abbrev nBuf : Space → Nat
  | .hbm => 17
  | .vmem => 10
  | .smem => 0
  | _ => 0

abbrev bufTy : (tb : Table) → Fin (tcTables nBuf tb) → BufTy
  | .hbm, ⟨0, _⟩ => ⟨S8704x16x512, .f32⟩
  | .hbm, ⟨1, _⟩ => ⟨S8704x16x64, .f32⟩
  | .hbm, ⟨2, _⟩ => ⟨S8704x576, .f32⟩
  | .hbm, ⟨3, _⟩ => ⟨S512x16x128, .f32⟩
  | .hbm, ⟨4, _⟩ => ⟨S8704x16x576, .f32⟩
  | .hbm, ⟨5, _⟩ => ⟨S_, .i32⟩
  | .hbm, ⟨6, _⟩ => ⟨S_, .f32⟩
  | .hbm, ⟨7, _⟩ => ⟨S8704x16x640, .f32⟩
  | .hbm, ⟨8, _⟩ => ⟨S16x8704x640, .f32⟩
  | .hbm, ⟨9, _⟩ => ⟨S16x8704x640, .bf16⟩
  | .hbm, ⟨10, _⟩ => ⟨S_, .i32⟩
  | .hbm, ⟨11, _⟩ => ⟨S_, .f32⟩
  | .hbm, ⟨12, _⟩ => ⟨S8704x640, .f32⟩
  | .hbm, ⟨13, _⟩ => ⟨S8704x640, .bf16⟩
  | .hbm, ⟨14, _⟩ => ⟨S16x512x128, .f32⟩
  | .hbm, ⟨15, _⟩ => ⟨S16x512x128, .bf16⟩
  | .hbm, ⟨16, _⟩ => ⟨S8192x2048, .bf16⟩
  | .local _ .vmem, ⟨0, _⟩ => ⟨S16x128x640, .bf16⟩
  | .local _ .vmem, ⟨1, _⟩ => ⟨S16x128x640, .bf16⟩
  | .local _ .vmem, ⟨2, _⟩ => ⟨S512x640, .bf16⟩
  | .local _ .vmem, ⟨3, _⟩ => ⟨S512x640, .bf16⟩
  | .local _ .vmem, ⟨4, _⟩ => ⟨S16x512x128, .bf16⟩
  | .local _ .vmem, ⟨5, _⟩ => ⟨S128x2048, .bf16⟩
  | .local _ .vmem, ⟨6, _⟩ => ⟨S128x2048, .bf16⟩
  | .local _ .vmem, ⟨7, _⟩ => ⟨S2048x128, .f32⟩
  | .local _ .vmem, ⟨8, _⟩ => ⟨S2048x128, .f32⟩
  | .local _ .vmem, ⟨9, _⟩ => ⟨S2048x512, .f32⟩
  | _, _ => ⟨S8704x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 16, 4], ![false, false, false]⟩

def k0_cond4 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_10 : BitVec 32 := 0#32
  let v31 : BitVec 1 := Scalar.cmpi .ne v30 c0_i32_10
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c128_i32 : BitVec 32 := 128#32
  let v1 : BitVec 32 := Scalar.muli arg1 c128_i32
  let c128_i32_0 : BitVec 32 := 128#32
  let v2 : BitVec 32 := Scalar.addi v1 c128_i32_0
  let c1_i32 : BitVec 32 := 1#32
  let v3 : BitVec 32 := Scalar.subi v2 c1_i32
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S16x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | "scale2" => some (((Real.sqrt 192)⁻¹ * (Real.log 2)⁻¹ : ℝ) : EReal)
  | _ => none
-- ==== ReferenceIdeal.lean ====
abbrev S8704x16x512 : Shape := ⟨3, ![8704, 16, 512]⟩
abbrev S8704x16x64 : Shape := ⟨3, ![8704, 16, 64]⟩
abbrev S8704x576 : Shape := ⟨2, ![8704, 576]⟩
abbrev S512x16x128 : Shape := ⟨3, ![512, 16, 128]⟩
abbrev S8192x16x512 : Shape := ⟨3, ![8192, 16, 512]⟩
abbrev S4x2048x16x512 : Shape := ⟨4, ![4, 2048, 16, 512]⟩
abbrev S8192x16x64 : Shape := ⟨3, ![8192, 16, 64]⟩
abbrev S4x2048x16x64 : Shape := ⟨4, ![4, 2048, 16, 64]⟩
abbrev S8192x576 : Shape := ⟨2, ![8192, 576]⟩
abbrev S4x2048x576 : Shape := ⟨3, ![4, 2048, 576]⟩
abbrev S4x2048x512 : Shape := ⟨3, ![4, 2048, 512]⟩
abbrev S4x2048x64 : Shape := ⟨3, ![4, 2048, 64]⟩
abbrev S2048 : Shape := ⟨1, ![2048]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S4x16x2048 : Shape := ⟨3, ![4, 16, 2048]⟩
abbrev S4x16x2048x1 : Shape := ⟨4, ![4, 16, 2048, 1]⟩
abbrev S4x512x16x2048 : Shape := ⟨4, ![4, 512, 16, 2048]⟩
abbrev S16x128x4x2048 : Shape := ⟨4, ![16, 128, 4, 2048]⟩
abbrev S4x2048x16x128 : Shape := ⟨4, ![4, 2048, 16, 128]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8704x16x512, .f32⟩
  | .hbm, ⟨1, _⟩ => ⟨S8704x16x64, .f32⟩
  | .hbm, ⟨2, _⟩ => ⟨S8704x576, .f32⟩
  | .hbm, ⟨3, _⟩ => ⟨S512x16x128, .f32⟩
  | .hbm, ⟨4, _⟩ => ⟨S8192x16x512, .f32⟩
  | .hbm, ⟨5, _⟩ => ⟨S4x2048x16x512, .f32⟩
  | .hbm, ⟨6, _⟩ => ⟨S8192x16x64, .f32⟩
  | .hbm, ⟨7, _⟩ => ⟨S4x2048x16x64, .f32⟩
  | .hbm, ⟨8, _⟩ => ⟨S8192x576, .f32⟩
  | .hbm, ⟨9, _⟩ => ⟨S4x2048x576, .f32⟩
  | .hbm, ⟨10, _⟩ => ⟨S4x2048x512, .f32⟩
  | .hbm, ⟨11, _⟩ => ⟨S4x2048x64, .f32⟩
  | .hbm, ⟨12, _⟩ => ⟨S2048, .i32⟩
  | .hbm, ⟨13, _⟩ => ⟨S4x2048x2048x16, .f32⟩
  | .hbm, ⟨14, _⟩ => ⟨S4x16x2048x2048, .f32⟩
  | .hbm, ⟨15, _⟩ => ⟨S4x2048x2048x16, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S1x1x1x2048, .i32⟩
  | .hbm, ⟨23, _⟩ => ⟨S1x1x2048x1, .i32⟩
  | .hbm, ⟨24, _⟩ => ⟨S1x1x2048x2048, .i32⟩
  | .hbm, ⟨25, _⟩ => ⟨S1x1x2048x2048, .i32⟩
  | .hbm, ⟨26, _⟩ => ⟨S1x1x2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x512x16x2048, .f32⟩
  | .hbm, ⟨47, _⟩ => ⟨S4x2048x16x512, .f32⟩
  | .hbm, ⟨48, _⟩ => ⟨S16x128x4x2048, .f32⟩
  | .hbm, ⟨49, _⟩ => ⟨S4x2048x16x128, .f32⟩
  | .hbm, ⟨50, _⟩ => ⟨S8192x2048, .f32⟩
  | .hbm, ⟨51, _⟩ => ⟨S8192x2048, .bf16⟩
  | _, _ => ⟨S8704x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Norm.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | .hbm, ⟨18, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Gates.lean ====
abbrev S8704x4096 : Shape := ⟨2, ![8704, 4096]⟩
abbrev S4096x8192 : Shape := ⟨2, ![4096, 8192]⟩
abbrev S8704x8192 : Shape := ⟨2, ![8704, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x8192, .f32⟩
  | .hbm, ⟨2, _⟩ => ⟨S8704x4096, .bf16⟩
  | .hbm, ⟨3, _⟩ => ⟨S4096x8192, .bf16⟩
  | .hbm, ⟨4, _⟩ => ⟨S8704x8192, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S8704x4096 : Shape := ⟨2, ![8704, 4096]⟩
abbrev S4096x8192 : Shape := ⟨2, ![4096, 8192]⟩
abbrev S8704x8192 : Shape := ⟨2, ![8704, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x8192, .f32⟩
  | .hbm, ⟨2, _⟩ => ⟨S8704x8192, .f32⟩
  | .hbm, ⟨3, _⟩ => ⟨S8704x8192, .f32⟩
  | .hbm, ⟨4, _⟩ => ⟨S8704x8192, .f32⟩
  | .hbm, ⟨5, _⟩ => ⟨S_, .f32⟩
  | .hbm, ⟨6, _⟩ => ⟨S8704x8192, .f32⟩
  | .hbm, ⟨7, _⟩ => ⟨S8704x8192, .f32⟩
  | .hbm, ⟨8, _⟩ => ⟨S_, .f32⟩
  | .hbm, ⟨9, _⟩ => ⟨S8704x8192, .f32⟩
  | .hbm, ⟨10, _⟩ => ⟨S8704x8192, .f32⟩
  | .hbm, ⟨11, _⟩ => ⟨S8704x8192, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Merge.lean ====
abbrev S8704x2048 : Shape := ⟨2, ![8704, 2048]⟩
abbrev S2048x4096 : Shape := ⟨2, ![2048, 4096]⟩
abbrev S8704x8192 : Shape := ⟨2, ![8704, 8192]⟩
abbrev S8704x4096 : Shape := ⟨2, ![8704, 4096]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S2048x4096, .f32⟩
  | .hbm, ⟨3, _⟩ => ⟨S2048x4096, .f32⟩
  | .hbm, ⟨4, _⟩ => ⟨S8704x8192, .f32⟩
  | .hbm, ⟨5, _⟩ => ⟨S8704x2048, .bf16⟩
  | .hbm, ⟨6, _⟩ => ⟨S8704x2048, .bf16⟩
  | .hbm, ⟨7, _⟩ => ⟨S2048x4096, .bf16⟩
  | .hbm, ⟨8, _⟩ => ⟨S2048x4096, .bf16⟩
  | .hbm, ⟨9, _⟩ => ⟨S8704x8192, .bf16⟩
  | .hbm, ⟨10, _⟩ => ⟨S8704x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S8704x2048 : Shape := ⟨2, ![8704, 2048]⟩
abbrev S2048x4096 : Shape := ⟨2, ![2048, 4096]⟩
abbrev S8704x8192 : Shape := ⟨2, ![8704, 8192]⟩
abbrev S8704x4096 : Shape := ⟨2, ![8704, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S2048x4096, .f32⟩
  | .hbm, ⟨3, _⟩ => ⟨S2048x4096, .f32⟩
  | .hbm, ⟨4, _⟩ => ⟨S8704x8192, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x4096, .f32⟩
  | .hbm, ⟨12, _⟩ => ⟨S8704x4096, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutProj.lean ====
abbrev S8704x4096 : Shape := ⟨2, ![8704, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S8704x4096, .f32⟩
  | .hbm, ⟨3, _⟩ => ⟨S8704x4096, .bf16⟩
  | .hbm, ⟨4, _⟩ => ⟨S4096x4096, .bf16⟩
  | .hbm, ⟨5, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S8704x4096 : Shape := ⟨2, ![8704, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x4096, .f32⟩
  | .hbm, ⟨2, _⟩ => ⟨S8704x4096, .f32⟩
  | .hbm, ⟨3, _⟩ => ⟨S8704x4096, .f32⟩
  | .hbm, ⟨4, _⟩ => ⟨S8704x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Qb.lean ====
abbrev S8704x4096 : Shape := ⟨2, ![8704, 4096]⟩
abbrev S4096x2048 : Shape := ⟨2, ![4096, 2048]⟩
abbrev S8704x2048 : Shape := ⟨2, ![8704, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x2048, .f32⟩
  | .hbm, ⟨2, _⟩ => ⟨S8704x4096, .bf16⟩
  | .hbm, ⟨3, _⟩ => ⟨S4096x2048, .bf16⟩
  | .hbm, ⟨4, _⟩ => ⟨S8704x2048, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QbReferenceIdeal.lean ====
abbrev S8704x4096 : Shape := ⟨2, ![8704, 4096]⟩
abbrev S4096x2048 : Shape := ⟨2, ![4096, 2048]⟩
abbrev S8704x2048 : Shape := ⟨2, ![8704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x2048, .f32⟩
  | .hbm, ⟨2, _⟩ => ⟨S8704x2048, .f32⟩
  | .hbm, ⟨3, _⟩ => ⟨S8704x2048, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kv.lean ====
abbrev S8704x4096 : Shape := ⟨2, ![8704, 4096]⟩
abbrev S4096x512 : Shape := ⟨2, ![4096, 512]⟩
abbrev S8704x512 : Shape := ⟨2, ![8704, 512]⟩
abbrev S512x4096 : Shape := ⟨2, ![512, 4096]⟩
abbrev S512x512 : Shape := ⟨2, ![512, 512]⟩

abbrev nBuf : Space → Nat
  | .hbm => 6
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S4096x512, .f32⟩
  | .hbm, ⟨2, _⟩ => ⟨S8704x4096, .bf16⟩
  | .hbm, ⟨3, _⟩ => ⟨S4096x512, .bf16⟩
  | .hbm, ⟨4, _⟩ => ⟨S8704x512, .f32⟩
  | .hbm, ⟨5, _⟩ => ⟨S8704x512, .bf16⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KvReferenceIdeal.lean ====
abbrev S8704x4096 : Shape := ⟨2, ![8704, 4096]⟩
abbrev S4096x512 : Shape := ⟨2, ![4096, 512]⟩
abbrev S8704x512 : Shape := ⟨2, ![8704, 512]⟩

abbrev nBuf : Space → Nat
  | .hbm => 4
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x512, .f32⟩
  | .hbm, ⟨2, _⟩ => ⟨S8704x512, .f32⟩
  | .hbm, ⟨3, _⟩ => ⟨S8704x512, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Cq.lean ====
abbrev S8704x4096 : Shape := ⟨2, ![8704, 4096]⟩
abbrev S4096x1024 : Shape := ⟨2, ![4096, 1024]⟩
abbrev S1024 : Shape := ⟨1, ![1024]⟩
abbrev S1x1024 : Shape := ⟨2, ![1, 1024]⟩
abbrev S8704x1024 : Shape := ⟨2, ![8704, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S1024, .f32⟩
  | .hbm, ⟨3, _⟩ => ⟨S8704x4096, .bf16⟩
  | .hbm, ⟨4, _⟩ => ⟨S4096x1024, .bf16⟩
  | .hbm, ⟨5, _⟩ => ⟨S1x1024, .f32⟩
  | .hbm, ⟨6, _⟩ => ⟨S8704x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== CqReferenceIdeal.lean ====
abbrev S8704x4096 : Shape := ⟨2, ![8704, 4096]⟩
abbrev S4096x1024 : Shape := ⟨2, ![4096, 1024]⟩
abbrev S1024 : Shape := ⟨1, ![1024]⟩
abbrev S8704x1024 : Shape := ⟨2, ![8704, 1024]⟩
abbrev S_ : Shape := ⟨0, ![]⟩
abbrev S8704 : Shape := ⟨1, ![8704]⟩
abbrev S8704x1 : Shape := ⟨2, ![8704, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x1024, .f32⟩
  | .hbm, ⟨2, _⟩ => ⟨S1024, .f32⟩
  | .hbm, ⟨3, _⟩ => ⟨S8704x1024, .f32⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1024, .f32⟩
  | .hbm, ⟨16, _⟩ => ⟨S8704x1024, .f32⟩
  | .hbm, ⟨17, _⟩ => ⟨S1x1024, .f32⟩
  | .hbm, ⟨18, _⟩ => ⟨S8704x1024, .f32⟩
  | .hbm, ⟨19, _⟩ => ⟨S8704x1024, .f32⟩
  | .hbm, ⟨20, _⟩ => ⟨S8704x1024, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ckr.lean ====
abbrev S8704x4096 : Shape := ⟨2, ![8704, 4096]⟩
abbrev S4096x576 : Shape := ⟨2, ![4096, 576]⟩
abbrev S512 : Shape := ⟨1, ![512]⟩
abbrev S8704 : Shape := ⟨1, ![8704]⟩
abbrev S32 : Shape := ⟨1, ![32]⟩
abbrev S_ : Shape := ⟨0, ![]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S8704x128 : Shape := ⟨2, ![8704, 128]⟩
abbrev S4096x640 : Shape := ⟨2, ![4096, 640]⟩
abbrev S1x512 : Shape := ⟨2, ![1, 512]⟩
abbrev S8704x576 : Shape := ⟨2, ![8704, 576]⟩
abbrev S8704x640 : Shape := ⟨2, ![8704, 640]⟩
abbrev S512x4096 : Shape := ⟨2, ![512, 4096]⟩
abbrev S512x128 : Shape := ⟨2, ![512, 128]⟩
abbrev S512x576 : Shape := ⟨2, ![512, 576]⟩
abbrev S512x640 : Shape := ⟨2, ![512, 640]⟩
abbrev S512x512 : Shape := ⟨2, ![512, 512]⟩
abbrev S512x1 : Shape := ⟨2, ![512, 1]⟩

abbrev nBuf : Space → Nat
  | .hbm => 35
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S4096x576, .f32⟩
  | .hbm, ⟨2, _⟩ => ⟨S512, .f32⟩
  | .hbm, ⟨3, _⟩ => ⟨S8704, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8704, .f32⟩
  | .hbm, ⟨13, _⟩ => ⟨S8704x1, .f32⟩
  | .hbm, ⟨14, _⟩ => ⟨S1x32, .f32⟩
  | .hbm, ⟨15, _⟩ => ⟨S8704x32, .f32⟩
  | .hbm, ⟨16, _⟩ => ⟨S8704x32, .f32⟩
  | .hbm, ⟨17, _⟩ => ⟨S8704x32, .f32⟩
  | .hbm, ⟨18, _⟩ => ⟨S_, .f32⟩
  | .hbm, ⟨19, _⟩ => ⟨S8704x64, .f32⟩
  | .hbm, ⟨20, _⟩ => ⟨S8704x32, .f32⟩
  | .hbm, ⟨21, _⟩ => ⟨S8704x32, .f32⟩
  | .hbm, ⟨22, _⟩ => ⟨S8704x128, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x128, .f32⟩
  | .hbm, ⟨27, _⟩ => ⟨S_, .i32⟩
  | .hbm, ⟨28, _⟩ => ⟨S_, .f32⟩
  | .hbm, ⟨29, _⟩ => ⟨S4096x640, .f32⟩
  | .hbm, ⟨30, _⟩ => ⟨S4096x640, .bf16⟩
  | .hbm, ⟨31, _⟩ => ⟨S8704x4096, .bf16⟩
  | .hbm, ⟨32, _⟩ => ⟨S1x512, .f32⟩
  | .hbm, ⟨33, _⟩ => ⟨S8704x576, .f32⟩
  | .hbm, ⟨34, _⟩ => ⟨S8704x640, .bf16⟩
  | .local _ .vmem, ⟨0, _⟩ => ⟨S512x4096, .bf16⟩
  | .local _ .vmem, ⟨1, _⟩ => ⟨S512x4096, .bf16⟩
  | .local _ .vmem, ⟨2, _⟩ => ⟨S4096x640, .bf16⟩
  | .local _ .vmem, ⟨3, _⟩ => ⟨S1x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x576, .f32⟩
  | .local _ .vmem, ⟨9, _⟩ => ⟨S512x576, .f32⟩
  | .local _ .vmem, ⟨10, _⟩ => ⟨S512x640, .bf16⟩
  | .local _ .vmem, ⟨11, _⟩ => ⟨S512x640, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== CkrReferenceIdeal.lean ====
abbrev S8704x4096 : Shape := ⟨2, ![8704, 4096]⟩
abbrev S4096x576 : Shape := ⟨2, ![4096, 576]⟩
abbrev S512 : Shape := ⟨1, ![512]⟩
abbrev S8704 : Shape := ⟨1, ![8704]⟩
abbrev S8704x576 : Shape := ⟨2, ![8704, 576]⟩
abbrev S8704x512 : Shape := ⟨2, ![8704, 512]⟩
abbrev S_ : Shape := ⟨0, ![]⟩
abbrev S8704x1 : Shape := ⟨2, ![8704, 1]⟩
abbrev S1x512 : Shape := ⟨2, ![1, 512]⟩
abbrev S8704x64 : Shape := ⟨2, ![8704, 64]⟩
abbrev S32 : Shape := ⟨1, ![32]⟩
abbrev S1x32 : Shape := ⟨2, ![1, 32]⟩
abbrev S8704x32 : Shape := ⟨2, ![8704, 32]⟩
abbrev S8704x640 : Shape := ⟨2, ![8704, 640]⟩

abbrev nBuf : Space → Nat
  | .hbm => 53
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x576, .f32⟩
  | .hbm, ⟨2, _⟩ => ⟨S512, .f32⟩
  | .hbm, ⟨3, _⟩ => ⟨S8704, .i32⟩
  | .hbm, ⟨4, _⟩ => ⟨S8704x576, .f32⟩
  | .hbm, ⟨5, _⟩ => ⟨S8704x512, .f32⟩
  | .hbm, ⟨6, _⟩ => ⟨S8704x512, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x512, .f32⟩
  | .hbm, ⟨18, _⟩ => ⟨S8704x512, .f32⟩
  | .hbm, ⟨19, _⟩ => ⟨S1x512, .f32⟩
  | .hbm, ⟨20, _⟩ => ⟨S8704x512, .f32⟩
  | .hbm, ⟨21, _⟩ => ⟨S8704x512, .f32⟩
  | .hbm, ⟨22, _⟩ => ⟨S8704x64, .f32⟩
  | .hbm, ⟨23, _⟩ => ⟨S8704, .f32⟩
  | .hbm, ⟨24, _⟩ => ⟨S8704x1, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x32, .f32⟩
  | .hbm, ⟨34, _⟩ => ⟨S8704x32, .f32⟩
  | .hbm, ⟨35, _⟩ => ⟨S8704x32, .f32⟩
  | .hbm, ⟨36, _⟩ => ⟨S8704x32, .f32⟩
  | .hbm, ⟨37, _⟩ => ⟨S8704x32, .f32⟩
  | .hbm, ⟨38, _⟩ => ⟨S8704x32, .f32⟩
  | .hbm, ⟨39, _⟩ => ⟨S8704x32, .f32⟩
  | .hbm, ⟨40, _⟩ => ⟨S8704x32, .f32⟩
  | .hbm, ⟨41, _⟩ => ⟨S8704x32, .f32⟩
  | .hbm, ⟨42, _⟩ => ⟨S8704x32, .f32⟩
  | .hbm, ⟨43, _⟩ => ⟨S8704x32, .f32⟩
  | .hbm, ⟨44, _⟩ => ⟨S8704x32, .f32⟩
  | .hbm, ⟨45, _⟩ => ⟨S8704x32, .f32⟩
  | .hbm, ⟨46, _⟩ => ⟨S8704x32, .f32⟩
  | .hbm, ⟨47, _⟩ => ⟨S8704x64, .f32⟩
  | .hbm, ⟨48, _⟩ => ⟨S8704x576, .f32⟩
  | .hbm, ⟨49, _⟩ => ⟨S_, .i32⟩
  | .hbm, ⟨50, _⟩ => ⟨S_, .f32⟩
  | .hbm, ⟨51, _⟩ => ⟨S8704x640, .f32⟩
  | .hbm, ⟨52, _⟩ => ⟨S8704x640, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_call0_v0 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== FinalP.lean ====
abbrev S8704x4096 : Shape := ⟨2, ![8704, 4096]⟩
abbrev S2x8704x4096 : Shape := ⟨3, ![2, 8704, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8704x4096, .f32⟩
  | .hbm, ⟨1, _⟩ => ⟨S2x8704x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalPReferenceIdeal.lean ====
abbrev S8704x4096 : Shape := ⟨2, ![8704, 4096]⟩
abbrev S2x8704x4096 : Shape := ⟨3, ![2, 8704, 4096]⟩
abbrev S4096 : Shape := ⟨1, ![4096]⟩
abbrev S8192x4096 : Shape := ⟨2, ![8192, 4096]⟩
abbrev S1x8192x4096 : Shape := ⟨3, ![1, 8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x8704x4096, .f32⟩
  | .hbm, ⟨2, _⟩ => ⟨S4096, .f32⟩
  | .hbm, ⟨3, _⟩ => ⟨S8192x4096, .f32⟩
  | .hbm, ⟨4, _⟩ => ⟨S1x8192x4096, .f32⟩
  | .hbm, ⟨5, _⟩ => ⟨S8192x4096, .f32⟩
  | .hbm, ⟨6, _⟩ => ⟨S1x8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FinalS.lean ====
abbrev S8704x4096 : Shape := ⟨2, ![8704, 4096]⟩
abbrev S2x8704x4096 : Shape := ⟨3, ![2, 8704, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S8704x4096, .f32⟩
  | .hbm, ⟨1, _⟩ => ⟨S2x8704x4096, .f32⟩
  | .hbm, ⟨2, _⟩ => ⟨S4096, .f32⟩
  | .hbm, ⟨3, _⟩ => ⟨S1x4096, .f32⟩
  | .hbm, ⟨4, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalSReferenceIdeal.lean ====
abbrev S8704x4096 : Shape := ⟨2, ![8704, 4096]⟩
abbrev S2x8704x4096 : Shape := ⟨3, ![2, 8704, 4096]⟩
abbrev S4096 : Shape := ⟨1, ![4096]⟩
abbrev S512x4096 : Shape := ⟨2, ![512, 4096]⟩
abbrev S1x512x4096 : Shape := ⟨3, ![1, 512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x8704x4096, .f32⟩
  | .hbm, ⟨2, _⟩ => ⟨S4096, .f32⟩
  | .hbm, ⟨3, _⟩ => ⟨S512x4096, .f32⟩
  | .hbm, ⟨4, _⟩ => ⟨S1x512x4096, .f32⟩
  | .hbm, ⟨5, _⟩ => ⟨S512x4096, .f32⟩
  | .hbm, ⟨6, _⟩ => ⟨S1x512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x1, .f32⟩
  | .hbm, ⟨21, _⟩ => ⟨S512x4096, .f32⟩
  | .hbm, ⟨22, _⟩ => ⟨S512x4096, .f32⟩
  | .hbm, ⟨23, _⟩ => ⟨S1x4096, .f32⟩
  | .hbm, ⟨24, _⟩ => ⟨S512x4096, .f32⟩
  | .hbm, ⟨25, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Qp.lean ====
abbrev S8704x1024 : Shape := ⟨2, ![8704, 1024]⟩
abbrev S1024x16x192 : Shape := ⟨3, ![1024, 16, 192]⟩
abbrev S512x16x128 : Shape := ⟨3, ![512, 16, 128]⟩
abbrev S8704 : Shape := ⟨1, ![8704]⟩
abbrev S32 : Shape := ⟨1, ![32]⟩
abbrev S_ : Shape := ⟨0, ![]⟩
abbrev S8704x1 : Shape := ⟨2, ![8704, 1]⟩
abbrev S1x32 : Shape := ⟨2, ![1, 32]⟩
abbrev S8704x32 : Shape := ⟨2, ![8704, 32]⟩
abbrev S8704x64 : Shape := ⟨2, ![8704, 64]⟩
abbrev S8704x128 : Shape := ⟨2, ![8704, 128]⟩
abbrev S1024x16x128 : Shape := ⟨3, ![1024, 16, 128]⟩
abbrev S1024x2048 : Shape := ⟨2, ![1024, 2048]⟩
abbrev S1024x16x64 : Shape := ⟨3, ![1024, 16, 64]⟩
abbrev S16x128x512 : Shape := ⟨3, ![16, 128, 512]⟩
abbrev S16x8704x640 : Shape := ⟨3, ![16, 8704, 640]⟩
abbrev S512x1024 : Shape := ⟨2, ![512, 1024]⟩
abbrev S1024x512 : Shape := ⟨2, ![1024, 512]⟩
abbrev S4x128x512 : Shape := ⟨3, ![4, 128, 512]⟩
abbrev S512x128 : Shape := ⟨2, ![512, 128]⟩
abbrev S4x512x640 : Shape := ⟨3, ![4, 512, 640]⟩
abbrev S512x512 : Shape := ⟨2, ![512, 512]⟩
abbrev S1x128x512 : Shape := ⟨3, ![1, 128, 512]⟩
abbrev S128x512 : Shape := ⟨2, ![128, 512]⟩
abbrev S1x512x512 : Shape := ⟨3, ![1, 512, 512]⟩
abbrev S1x512x128 : Shape := ⟨3, ![1, 512, 128]⟩

abbrev nBuf : Space → Nat
  | .hbm => 40
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S1024x16x192, .f32⟩
  | .hbm, ⟨2, _⟩ => ⟨S512x16x128, .f32⟩
  | .hbm, ⟨3, _⟩ => ⟨S8704, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8704, .f32⟩
  | .hbm, ⟨13, _⟩ => ⟨S8704x1, .f32⟩
  | .hbm, ⟨14, _⟩ => ⟨S1x32, .f32⟩
  | .hbm, ⟨15, _⟩ => ⟨S8704x32, .f32⟩
  | .hbm, ⟨16, _⟩ => ⟨S8704x32, .f32⟩
  | .hbm, ⟨17, _⟩ => ⟨S8704x32, .f32⟩
  | .hbm, ⟨18, _⟩ => ⟨S_, .f32⟩
  | .hbm, ⟨19, _⟩ => ⟨S8704x64, .f32⟩
  | .hbm, ⟨20, _⟩ => ⟨S8704x32, .f32⟩
  | .hbm, ⟨21, _⟩ => ⟨S8704x32, .f32⟩
  | .hbm, ⟨22, _⟩ => ⟨S8704x128, .f32⟩
  | .hbm, ⟨23, _⟩ => ⟨S8704x32, .f32⟩
  | .hbm, ⟨24, _⟩ => ⟨S8704x32, .f32⟩
  | .hbm, ⟨25, _⟩ => ⟨S8704x32, .f32⟩
  | .hbm, ⟨26, _⟩ => ⟨S8704x128, .f32⟩
  | .hbm, ⟨27, _⟩ => ⟨S1024x16x128, .f32⟩
  | .hbm, ⟨28, _⟩ => ⟨S1024x2048, .f32⟩
  | .hbm, ⟨29, _⟩ => ⟨S1024x2048, .bf16⟩
  | .hbm, ⟨30, _⟩ => ⟨S1024x16x64, .f32⟩
  | .hbm, ⟨31, _⟩ => ⟨S_, .i32⟩
  | .hbm, ⟨32, _⟩ => ⟨S_, .f32⟩
  | .hbm, ⟨33, _⟩ => ⟨S1024x16x128, .f32⟩
  | .hbm, ⟨34, _⟩ => ⟨S1024x2048, .f32⟩
  | .hbm, ⟨35, _⟩ => ⟨S1024x2048, .bf16⟩
  | .hbm, ⟨36, _⟩ => ⟨S16x128x512, .f32⟩
  | .hbm, ⟨37, _⟩ => ⟨S16x128x512, .bf16⟩
  | .hbm, ⟨38, _⟩ => ⟨S8704x1024, .bf16⟩
  | .hbm, ⟨39, _⟩ => ⟨S16x8704x640, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S4x128x512, .bf16⟩
  | .local _ .vmem, ⟨7, _⟩ => ⟨S4x128x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x512x640, .bf16⟩
  | .local _ .vmem, ⟨13, _⟩ => ⟨S4x512x640, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x512x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QpReferenceIdeal.lean ====
abbrev S8704x1024 : Shape := ⟨2, ![8704, 1024]⟩
abbrev S1024x16x192 : Shape := ⟨3, ![1024, 16, 192]⟩
abbrev S512x16x128 : Shape := ⟨3, ![512, 16, 128]⟩
abbrev S8704 : Shape := ⟨1, ![8704]⟩
abbrev S8704x16x192 : Shape := ⟨3, ![8704, 16, 192]⟩
abbrev S8704x16x128 : Shape := ⟨3, ![8704, 16, 128]⟩
abbrev S16x512x8704 : Shape := ⟨3, ![16, 512, 8704]⟩
abbrev S8704x16x512 : Shape := ⟨3, ![8704, 16, 512]⟩
abbrev S8704x1 : Shape := ⟨2, ![8704, 1]⟩
abbrev S32 : Shape := ⟨1, ![32]⟩
abbrev S_ : Shape := ⟨0, ![]⟩
abbrev S1x32 : Shape := ⟨2, ![1, 32]⟩
abbrev S8704x32 : Shape := ⟨2, ![8704, 32]⟩
abbrev S8704x1x32 : Shape := ⟨3, ![8704, 1, 32]⟩
abbrev S8704x16x32 : Shape := ⟨3, ![8704, 16, 32]⟩
abbrev S8704x16x64 : Shape := ⟨3, ![8704, 16, 64]⟩
abbrev S8704x16x576 : Shape := ⟨3, ![8704, 16, 576]⟩
abbrev S8704x16x640 : Shape := ⟨3, ![8704, 16, 640]⟩
abbrev S16x8704x640 : Shape := ⟨3, ![16, 8704, 640]⟩

abbrev nBuf : Space → Nat
  | .hbm => 45
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x16x192, .f32⟩
  | .hbm, ⟨2, _⟩ => ⟨S512x16x128, .f32⟩
  | .hbm, ⟨3, _⟩ => ⟨S8704, .i32⟩
  | .hbm, ⟨4, _⟩ => ⟨S8704x16x192, .f32⟩
  | .hbm, ⟨5, _⟩ => ⟨S8704x16x128, .f32⟩
  | .hbm, ⟨6, _⟩ => ⟨S16x512x8704, .f32⟩
  | .hbm, ⟨7, _⟩ => ⟨S8704x16x512, .f32⟩
  | .hbm, ⟨8, _⟩ => ⟨S8704, .f32⟩
  | .hbm, ⟨9, _⟩ => ⟨S8704x1, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S8704x32, .f32⟩
  | .hbm, ⟨20, _⟩ => ⟨S8704x32, .f32⟩
  | .hbm, ⟨21, _⟩ => ⟨S8704x32, .f32⟩
  | .hbm, ⟨22, _⟩ => ⟨S8704x32, .f32⟩
  | .hbm, ⟨23, _⟩ => ⟨S8704x1x32, .f32⟩
  | .hbm, ⟨24, _⟩ => ⟨S8704x32, .f32⟩
  | .hbm, ⟨25, _⟩ => ⟨S8704x1x32, .f32⟩
  | .hbm, ⟨26, _⟩ => ⟨S8704x16x32, .f32⟩
  | .hbm, ⟨27, _⟩ => ⟨S8704x16x32, .f32⟩
  | .hbm, ⟨28, _⟩ => ⟨S8704x16x32, .f32⟩
  | .hbm, ⟨29, _⟩ => ⟨S8704x16x32, .f32⟩
  | .hbm, ⟨30, _⟩ => ⟨S8704x16x32, .f32⟩
  | .hbm, ⟨31, _⟩ => ⟨S8704x16x32, .f32⟩
  | .hbm, ⟨32, _⟩ => ⟨S8704x16x32, .f32⟩
  | .hbm, ⟨33, _⟩ => ⟨S8704x16x32, .f32⟩
  | .hbm, ⟨34, _⟩ => ⟨S8704x16x32, .f32⟩
  | .hbm, ⟨35, _⟩ => ⟨S8704x16x32, .f32⟩
  | .hbm, ⟨36, _⟩ => ⟨S8704x16x32, .f32⟩
  | .hbm, ⟨37, _⟩ => ⟨S8704x16x32, .f32⟩
  | .hbm, ⟨38, _⟩ => ⟨S8704x16x64, .f32⟩
  | .hbm, ⟨39, _⟩ => ⟨S8704x16x576, .f32⟩
  | .hbm, ⟨40, _⟩ => ⟨S_, .i32⟩
  | .hbm, ⟨41, _⟩ => ⟨S_, .f32⟩
  | .hbm, ⟨42, _⟩ => ⟨S8704x16x640, .f32⟩
  | .hbm, ⟨43, _⟩ => ⟨S16x8704x640, .f32⟩
  | .hbm, ⟨44, _⟩ => ⟨S16x8704x640, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== Uv.lean ====
abbrev S512x16x512 : Shape := ⟨3, ![512, 16, 512]⟩
abbrev S512x16x128 : Shape := ⟨3, ![512, 16, 128]⟩
abbrev S16x512x512 : Shape := ⟨3, ![16, 512, 512]⟩
abbrev S16x512x128 : Shape := ⟨3, ![16, 512, 128]⟩
abbrev S512x2048 : Shape := ⟨2, ![512, 2048]⟩
abbrev S1x512x512 : Shape := ⟨3, ![1, 512, 512]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S512x16x512, .f32⟩
  | .hbm, ⟨1, _⟩ => ⟨S512x16x128, .f32⟩
  | .hbm, ⟨2, _⟩ => ⟨S16x512x512, .f32⟩
  | .hbm, ⟨3, _⟩ => ⟨S16x512x512, .bf16⟩
  | .hbm, ⟨4, _⟩ => ⟨S16x512x128, .f32⟩
  | .hbm, ⟨5, _⟩ => ⟨S16x512x128, .bf16⟩
  | .hbm, ⟨6, _⟩ => ⟨S512x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .bf16⟩
  | .local _ .vmem, ⟨3, _⟩ => ⟨S1x512x128, .bf16⟩
  | .local _ .vmem, ⟨4, _⟩ => ⟨S512x128, .bf16⟩
  | .local _ .vmem, ⟨5, _⟩ => ⟨S512x128, .bf16⟩
  | _, _ => ⟨S512x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UvReferenceIdeal.lean ====
abbrev S512x16x512 : Shape := ⟨3, ![512, 16, 512]⟩
abbrev S512x16x128 : Shape := ⟨3, ![512, 16, 128]⟩
abbrev S16x128x512 : Shape := ⟨3, ![16, 128, 512]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x16x512, .f32⟩
  | .hbm, ⟨1, _⟩ => ⟨S512x16x128, .f32⟩
  | .hbm, ⟨2, _⟩ => ⟨S16x128x512, .f32⟩
  | .hbm, ⟨3, _⟩ => ⟨S512x16x128, .f32⟩
  | .hbm, ⟨4, _⟩ => ⟨S512x2048, .f32⟩
  | .hbm, ⟨5, _⟩ => ⟨S512x2048, .bf16⟩
  | _, _ => ⟨S512x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Km.lean ====
abbrev S8704x512 : Shape := ⟨2, ![8704, 512]⟩
abbrev S512x256 : Shape := ⟨2, ![512, 256]⟩
abbrev S2048x256 : Shape := ⟨2, ![2048, 256]⟩
abbrev S128x256 : Shape := ⟨2, ![128, 256]⟩
abbrev S8x256x256 : Shape := ⟨3, ![8, 256, 256]⟩
abbrev S8x256 : Shape := ⟨2, ![8, 256]⟩

abbrev nBuf : Space → Nat
  | .hbm => 2
  | .vmem => 4
  | .smem => 0
  | _ => 0

abbrev bufTy : (tb : Table) → Fin (tcTables nBuf tb) → BufTy
  | .hbm, ⟨0, _⟩ => ⟨S8704x512, .f32⟩
  | .hbm, ⟨1, _⟩ => ⟨S512x256, .f32⟩
  | .local _ .vmem, ⟨0, _⟩ => ⟨S2048x256, .f32⟩
  | .local _ .vmem, ⟨1, _⟩ => ⟨S2048x256, .f32⟩
  | .local _ .vmem, ⟨2, _⟩ => ⟨S128x256, .f32⟩
  | .local _ .vmem, ⟨3, _⟩ => ⟨S128x256, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KmReferenceIdeal.lean ====
abbrev S8704x512 : Shape := ⟨2, ![8704, 512]⟩
abbrev S8192x256 : Shape := ⟨2, ![8192, 256]⟩
abbrev S4x8x256x256 : Shape := ⟨4, ![4, 8, 256, 256]⟩
abbrev S_ : Shape := ⟨0, ![]⟩
abbrev S4x8x256 : Shape := ⟨3, ![4, 8, 256]⟩
abbrev S4x128x256 : Shape := ⟨3, ![4, 128, 256]⟩
abbrev S512x256 : Shape := ⟨2, ![512, 256]⟩

abbrev nBuf : Space → Nat
  | .hbm => 12
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8192x256, .f32⟩
  | .hbm, ⟨2, _⟩ => ⟨S4x8x256x256, .f32⟩
  | .hbm, ⟨3, _⟩ => ⟨S_, .f32⟩
  | .hbm, ⟨4, _⟩ => ⟨S4x8x256, .f32⟩
  | .hbm, ⟨5, _⟩ => ⟨S_, .f32⟩
  | .hbm, ⟨6, _⟩ => ⟨S4x8x256, .f32⟩
  | .hbm, ⟨7, _⟩ => ⟨S4x8x256, .f32⟩
  | .hbm, ⟨8, _⟩ => ⟨S_, .i32⟩
  | .hbm, ⟨9, _⟩ => ⟨S_, .f32⟩
  | .hbm, ⟨10, _⟩ => ⟨S4x128x256, .f32⟩
  | .hbm, ⟨11, _⟩ => ⟨S512x256, .f32⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Finite.lean ====
/- The precondition, read: every entry of every argument is a real. -/
module

public import proofs.«01_k».proof.Proof.Gen.Pre_finite
public import Idealize.ShloMosaic.Lib.Pointwise
public import Idealize.ShloMosaic.Lib.ReduceAll
public import Idealize.ShloMosaic.Lib.Affine

@[expose] public section

set_option maxRecDepth 16384

noncomputable section

namespace Cert.Finite

open Idealize.ShloMosaic Idealize.ShloMosaic.TcCoe Cert.Pre_finite Cert.Pre_finite.Gen

instance : Subsingleton S_.Idx := ⟨fun a b => funext fun k => k.elim0⟩

/-- The pattern of positive infinity. -/
theorem ofBits_inf : (Ideal.ofBits .f32 (2139095040#32) : EReal) = ⊤ := by
  simp [Ideal.ofBits, Ideal.ieee]

/-- An entry of absolute value below infinity is a real. -/
theorem real_of_lt (x : Ideal .f32) (h : Ideal.cmp .olt (max (x : EReal) (-x)) (Ideal.ofBits .f32 (2139095040#32)) = 1#1) :
    (x : EReal) = ((x : EReal).toReal : EReal) := by
  rw [ofBits_inf] at h
  have h1 : max (x : EReal) (-x) < ⊤ := by
    by_contra hn
    rw [Ideal.cmp, decide_eq_false hn] at h
    exact absurd h (by decide)
  obtain ⟨h2, h3⟩ := max_lt_iff.mp h1
  refine (EReal.coe_toReal h2.ne fun e => ?_).symm
  rw [e] at h3
  exact absurd h3 (by simp)

/-- Where the precondition holds, every entry of the four arguments is a real number. -/
theorem reals (x0 : FVec Ideal S8704x16x512 .f32) (x1 : FVec Ideal S8704x16x64 .f32) (x2 : FVec Ideal S8704x576 .f32) (x3 : FVec Ideal S512x16x128 .f32)
    (j) (h : fn x0 x1 x2 x3 j = 1#1) :
    (∀ i, (x0 i : EReal) = ((x0 i : EReal).toReal : EReal)) ∧ (∀ i, (x1 i : EReal) = ((x1 i : EReal).toReal : EReal))
    ∧ (∀ i, (x2 i : EReal) = ((x2 i : EReal).toReal : EReal)) ∧ ∀ i, (x3 i : EReal) = ((x3 i : EReal).toReal : EReal) := by
  dsimp only [fn, fn_part1] at h
  obtain ⟨h, h3⟩ := IntOp.andi_eq_one.mp h
  obtain ⟨h, h2⟩ := IntOp.andi_eq_one.mp h
  obtain ⟨h0, h1⟩ := IntOp.andi_eq_one.mp h
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

end Cert.Finite

end
-- ==== Proof.Soft.lean ====
/- Softmax on the extended reals, one row: a score and its weight, the running form with its maximum, its sum of weights
   and its weighted sum, and the form that divides each weight by the sum. -/
module

public import Idealize.ShloMosaic.PureOps.Ideal

@[expose] public section

noncomputable section

namespace Cert.Soft

open Idealize.ShloMosaic

/-- The coercion of the reals into the extended reals keeps finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score in base two and its weight: a masked score is `⊥` and weighs nothing, a real score `x` weighs `2 ^ x`. -/
def Rep (s : EReal) (w : ℝ) : Prop := (s = ⊥ ∧ w = 0) ∨ ∃ x : ℝ, s = (x : EReal) ∧ w = (2 : ℝ) ^ x

/-- A natural score and its weight: a masked score is `⊥` and weighs nothing, a real score `x` weighs `e ^ x`. -/
def RepE (s : EReal) (w : ℝ) : Prop := (s = ⊥ ∧ w = 0) ∨ ∃ x : ℝ, s = (x : EReal) ∧ w = Real.exp x

/-- A weight is not negative. -/
theorem RepE.nonneg {s : EReal} {w : ℝ} (h : RepE s w) : 0 ≤ w := by
  rcases h with ⟨-, rfl⟩ | ⟨x, -, rfl⟩
  · exact le_rfl
  · exact (Real.exp_pos x).le

/-- A score that is not masked has a positive weight. -/
theorem RepE.pos {s : EReal} {w : ℝ} (h : RepE s w) (hs : s ≠ ⊥) : 0 < w := by
  rcases h with ⟨h, -⟩ | ⟨x, -, rfl⟩
  · exact absurd h hs
  · exact Real.exp_pos x

/-- Shifting a score by a real scales its weight. -/
theorem Rep.exp2_sub {s : EReal} {w : ℝ} (h : Rep s w) (M : ℝ) :
    Ideal.exp2 (s - (M : EReal)) = ((w * (2 : ℝ) ^ (-M) : ℝ) : EReal) := by
  rcases h with ⟨rfl, rfl⟩ | ⟨x, rfl, rfl⟩
  · rw [EReal.bot_sub, Ideal.exp2_bot, zero_mul, EReal.coe_zero]
  · rw [← EReal.coe_sub, Ideal.exp2_coe, sub_eq_add_neg]
    exact congrArg _ (Real.rpow_add (by norm_num) x (-M))

/-- Shifting a natural score by a real scales its weight. -/
theorem RepE.exp_sub {s : EReal} {w : ℝ} (h : RepE s w) (M : ℝ) :
    Ideal.exp (s - (M : EReal)) = ((w * Real.exp (-M) : ℝ) : EReal) := by
  rcases h with ⟨rfl, rfl⟩ | ⟨x, rfl, rfl⟩
  · rw [EReal.bot_sub, Ideal.exp_bot, zero_mul, EReal.coe_zero]
  · rw [← EReal.coe_sub, Ideal.exp_coe, sub_eq_add_neg, Real.exp_add]

/-- A represented score is below plus infinity. -/
theorem Rep.ne_top {s : EReal} {w : ℝ} (h : Rep s w) : s < ⊤ := by
  rcases h with ⟨rfl, -⟩ | ⟨x, rfl, -⟩
  · exact bot_lt_top
  · exact EReal.coe_lt_top x

/-- A represented score, perhaps minus infinity, is below plus infinity. -/
theorem RepE.ne_top {s : EReal} {w : ℝ} (h : RepE s w) : s < ⊤ := by
  rcases h with ⟨rfl, -⟩ | ⟨x, rfl, -⟩
  · exact bot_lt_top
  · exact EReal.coe_lt_top x

/-- The maximum of a running maximum and of a block's scores is real once one of them is not `⊥`. -/
theorem max_real {ι : Type*} [Fintype ι] (m : EReal) (hm : m < ⊤) (s : ι → EReal) (hs : ∀ k, s k < ⊤)
    (h : m ≠ ⊥ ∨ ∃ k, s k ≠ ⊥) : ∃ M : ℝ, max m (Finset.univ.fold max ⊥ s) = (M : EReal) := by
  have hf : Finset.univ.fold max ⊥ s < ⊤ := (Finset.fold_max_lt (c := (⊤ : EReal))).mpr ⟨bot_lt_top, fun k _ => hs k⟩
  have hb : max m (Finset.univ.fold max ⊥ s) ≠ ⊥ := by
    intro e
    rcases h with h | ⟨k, hk⟩
    · exact h (le_bot_iff.mp (e ▸ le_max_left _ _))
    · refine hk (le_bot_iff.mp (e ▸ le_trans ?_ (le_max_right _ _)))
      exact (Finset.le_fold_max (c := s k)).mpr (.inr ⟨k, Finset.mem_univ k, le_rfl⟩)
  exact ⟨_, (EReal.coe_toReal (max_lt hm hf).ne hb).symm⟩

/-- What a row of the running softmax holds: nothing yet, or a real shift `M` with the sum of weights `W` and the weighted
    sums `A`, both scaled by `2 ^ (-M)`. -/
def Inv {C : Type*} (m l : EReal) (acc : C → EReal) (W : ℝ) (A : C → ℝ) : Prop :=
  (m = ⊥ ∧ l = 0 ∧ (∀ c, acc c = 0) ∧ W = 0 ∧ ∀ c, A c = 0)
  ∨ ∃ M : ℝ, m = (M : EReal) ∧ l = ((W * (2 : ℝ) ^ (-M) : ℝ) : EReal) ∧ ∀ c, acc c = ((A c * (2 : ℝ) ^ (-M) : ℝ) : EReal)

/-- One block of keys: the row is rescaled to the new maximum and takes the block's weights. -/
theorem Inv.step {C ι : Type*} [Fintype ι] {m l : EReal} {acc : C → EReal} {W : ℝ} {A : C → ℝ} (h : Inv m l acc W A)
    (s : ι → EReal) (w : ι → ℝ) (hs : ∀ k, Rep (s k) (w k)) (v : ι → C → EReal) (vr : ι → C → ℝ) (hv : ∀ k c, v k c = (vr k c : EReal))
    (hne : m ≠ ⊥ ∨ ∃ k, s k ≠ ⊥) :
    max m (Finset.univ.fold max ⊥ s) ≠ ⊥ ∧
    Inv (max m (Finset.univ.fold max ⊥ s))
      (Ideal.exp2 (m - max m (Finset.univ.fold max ⊥ s)) * l + ∑ k, Ideal.exp2 (s k - max m (Finset.univ.fold max ⊥ s)))
      (fun c => Ideal.exp2 (m - max m (Finset.univ.fold max ⊥ s)) * acc c + ∑ k, Ideal.exp2 (s k - max m (Finset.univ.fold max ⊥ s)) * v k c)
      (W + ∑ k, w k) (fun c => A c + ∑ k, w k * vr k c) := by
  have hmt : m < ⊤ := by
    rcases h with ⟨rfl, -⟩ | ⟨x, rfl, -⟩
    · exact bot_lt_top
    · exact EReal.coe_lt_top x
  obtain ⟨M', hM'⟩ := max_real m hmt s (fun k => (hs k).ne_top) hne
  rw [hM']
  refine ⟨EReal.coe_ne_bot _, .inr ⟨M', rfl, ?_, fun c => ?_⟩⟩
  · simp only [fun k => (hs k).exp2_sub M', ← coe_sum]
    rcases h with ⟨rfl, rfl, -, rfl, -⟩ | ⟨M, rfl, rfl, -⟩
    · rw [mul_zero, zero_add, zero_add, Finset.sum_mul]
    · rw [← EReal.coe_sub, Ideal.exp2_coe, ← EReal.coe_mul, ← EReal.coe_add, add_mul, Finset.sum_mul]
      congr 2
      rw [mul_comm, mul_assoc]
      congr 1
      exact (Real.rpow_add (by norm_num) _ _).symm.trans (by ring_nf)
  · simp only [fun k => (hs k).exp2_sub M', hv, ← EReal.coe_mul, ← coe_sum]
    rcases h with ⟨rfl, -, ha, -, hA⟩ | ⟨M, rfl, -, ha⟩
    · rw [ha c, hA c, mul_zero, zero_add, zero_add, Finset.sum_mul]
      exact congrArg _ (Finset.sum_congr rfl fun k _ => by ring)
    · rw [ha c, ← EReal.coe_sub, Ideal.exp2_coe, ← EReal.coe_mul, ← EReal.coe_add, add_mul, Finset.sum_mul]
      refine congrArg _ (congrArg₂ _ ?_ (Finset.sum_congr rfl fun k _ => by ring))
      rw [mul_comm, mul_assoc]
      congr 1
      exact (Real.rpow_add (by norm_num) _ _).symm.trans (by ring_nf)

/-- The end of a row: the weighted sum divided by the sum of weights, the scale cancelled. -/
theorem Inv.div {C : Type*} {m l : EReal} {acc : C → EReal} {W : ℝ} {A : C → ℝ} (h : Inv m l acc W A) (hW : 0 < W) (c : C) :
    Ideal.div (acc c) l = ((A c / W : ℝ) : EReal) := by
  rcases h with ⟨-, -, -, h, -⟩ | ⟨M, -, rfl, ha⟩
  · exact absurd h hW.ne'
  · have h2 : (0 : ℝ) < (2 : ℝ) ^ (-M) := Real.rpow_pos_of_pos (by norm_num) _
    rw [ha c, Ideal.div_coe (mul_pos hW h2).ne', ← EReal.coe_mul]
    congr 1
    field_simp

/-- The plain softmax of a row: each probability is its weight over the sum of weights. -/
theorem softmax_apply {ι : Type*} [Fintype ι] (s : ι → EReal) (w : ι → ℝ) (hs : ∀ k, RepE (s k) (w k)) (hne : ∃ k, s k ≠ ⊥) (k : ι) :
    Ideal.div (Ideal.exp (s k - max ⊥ (Finset.univ.fold max ⊥ s))) (∑ k, Ideal.exp (s k - max ⊥ (Finset.univ.fold max ⊥ s)))
      = ((w k / ∑ k, w k : ℝ) : EReal) := by
  obtain ⟨M, hM⟩ := max_real ⊥ bot_lt_top s (fun k => (hs k).ne_top) (.inr hne)
  obtain ⟨k0, hk0⟩ := hne
  have hW : 0 < ∑ k, w k := Finset.sum_pos' (fun k _ => (hs k).nonneg) ⟨k0, Finset.mem_univ _, (hs k0).pos hk0⟩
  rw [hM]
  simp only [fun k => (hs k).exp_sub M, ← coe_sum, ← Finset.sum_mul]
  rw [Ideal.div_coe (mul_pos hW (Real.exp_pos _)).ne', ← EReal.coe_mul]
  congr 1
  have := (Real.exp_pos (-M)).ne'
  field_simp

/-- A product with the kernel's scale, which counts in base two, weighs what its product with the plain scale weighs. -/
theorem two_rpow_scale (x : ℝ) : (2 : ℝ) ^ (x * ((Real.sqrt 192)⁻¹ * (Real.log 2)⁻¹)) = Real.exp (x * (Real.sqrt 192)⁻¹) := by
  rw [Real.rpow_def_of_pos (by norm_num)]
  congr 1
  have : Real.log 2 ≠ 0 := (Real.log_pos (by norm_num)).ne'
  field_simp

end Cert.Soft

end
-- ==== Proof.Pay.lean ====
/- The values the kernel's body stores, at an index: the scaled scores, the causal mask, one step of the running softmax. -/
module

public import proofs.«01_k».proof.Proof.Soft
public import proofs.«01_k».proof.Proof.Gen.KernelIdeal.Skeleton
public import Idealize.ShloMosaic.Lib.Pointwise

@[expose] public section

set_option maxRecDepth 16384

noncomputable section

namespace Cert.Pay

open Idealize.ShloMosaic Cert.KernelIdeal Cert.KernelIdeal.Gen

/-- A quantity of each row, the same in every lane. -/
def lanes (f : Fin 2048 → EReal) : FVec Ideal S2048x128 .f32 := fun j => f (j 0)

/-- Four copies of the lanes beside each other. -/
theorem concat_lanes (f : Fin 2048 → EReal) (h) :
    (concatenate S2048x512 1 [⟨S2048x128, lanes f⟩, ⟨S2048x128, lanes f⟩, ⟨S2048x128, lanes f⟩, ⟨S2048x128, lanes f⟩] h : FVec Ideal S2048x512 .f32)
      = fun j => f (j 0) := by
  funext j
  pointwise [lanes]
  split_ifs <;> rfl

/-- The scale, named: the exact reciprocal of √192 and of log 2. -/
theorem named_scale2 : (Named.named κ "scale2" 0x3DD53B95#32 : Ideal .f32) = (((Real.sqrt 192)⁻¹ * (Real.log 2)⁻¹ : ℝ) : EReal) :=
  IdealRules.named_const.ideal_named_scalar _ _ _ _ rfl

/-- The mask, named: `⊥`. -/
theorem named_mask : (Named.named κ "mask" 0xF149F2CA#32 : Ideal .f32) = (⊥ : EReal) :=
  IdealRules.named_const.ideal_named_scalar _ _ _ _ rfl

/-- The pattern the maximum starts from is `⊥`. -/
theorem ofBits_neg_inf : (Ideal.ofBits .f32 0xFF800000#32 : EReal) = ⊥ := by
  simp [Ideal.ofBits, Ideal.ieee]

/-- The scaled score of row `r` (head `r / 128`, query `r % 128`) against key `κ` of the block. -/
def sc (q : Vec Ideal S16x128x640 .bf16) (k : Vec Ideal S512x640 .bf16) (r : Fin 2048) (κ : Fin 512) : EReal :=
  (∑ x : Fin 640, q (ix3 (⟨r.val / 128, by omega⟩ : Fin 16) (⟨r.val % 128, by omega⟩ : Fin 128) x) * k (ix2 κ x))
    * (((Real.sqrt 192)⁻¹ * (Real.log 2)⁻¹ : ℝ) : EReal)

/-- The scores of an unmasked block, entry by entry: the scaled product of a query row and a key row. -/
theorem pay14_apply (q : Vec Ideal S16x128x640 .bf16) (k : Vec Ideal S512x640 .bf16) (r : Fin 2048) (κ : Fin 512) :
    k0_pay14 q k (ix2 r κ) = sc q k r κ := by
  pointwise [k0_pay14, k0_pay13]
  rw [named_scale2]; rfl

/-- The scores of an unmasked block as one array. -/
theorem pay14_eq (q : Vec Ideal S16x128x640 .bf16) (k : Vec Ideal S512x640 .bf16) :
    k0_pay14 q k = fun j => sc q k (j 0) (j 1) := by
  funext j
  exact (congrArg _ (eq_ix2 j)).trans (pay14_apply q k (j 0) (j 1))

/-- A row's word modulo 128, as jnp spells a remainder. -/
theorem row_word : ∀ r : Fin 2048,
    (Scalar.select
            (IntOp.andi
              (IntOp.xori
                (IntOp.cmpi CmpIPredicate.slt
                  (IntOp.remsi ArithUnit.vector (BitVec.ofNat 32 r.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 r.val)
                  (Scalar.select (Scalar.cmpi CmpIPredicate.eq 128#32 0#32) 1#32 128#32))
                0#32))
            (IntOp.addi
              (IntOp.remsi ArithUnit.vector (BitVec.ofNat 32 r.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 r.val)
              (Scalar.select (Scalar.cmpi CmpIPredicate.eq 128#32 0#32) 1#32 128#32)) : BitVec 32) = BitVec.ofNat 32 (r.val % 128) := by
  decide +kernel

/-- The signed comparison of two small words is the comparison of the numbers. -/
theorem sle_ofNat (x y : ℕ) (hx : x < 2 ^ 31) (hy : y < 2 ^ 31) :
    IntOp.cmpi CmpIPredicate.sle (BitVec.ofNat 32 x) (BitVec.ofNat 32 y) = if x ≤ y then 1#1 else 0#1 := by
  have h : (BitVec.ofNat 32 x).sle (BitVec.ofNat 32 y) = decide (x ≤ y) := by
    rw [BitVec.sle_eq_decide]
    congr 1
    rw [BitVec.toInt_eq_toNat_cond, BitVec.toInt_eq_toNat_cond, BitVec.toNat_ofNat, BitVec.toNat_ofNat]
    rw [Nat.mod_eq_of_lt (by omega), Nat.mod_eq_of_lt (by omega), if_pos (by omega), if_pos (by omega)]
    exact propext Int.ofNat_le
  show BitVec.ofBool ((BitVec.ofNat 32 x).sle (BitVec.ofNat 32 y)) = _
  rw [h]
  by_cases hxy : x ≤ y <;> simp [hxy]

/-- The scores of the block on the diagonal: block `b` of keys against block `a` of queries, a key after the query masked. -/
def scm (a b : ℕ) (q : Vec Ideal S16x128x640 .bf16) (k : Vec Ideal S512x640 .bf16) (r : Fin 2048) (κ : Fin 512) : EReal :=
  if 512 * b + κ.val ≤ 128 * a + r.val % 128 then sc q k r κ else ⊥

/-- The scores of the diagonal block, entry by entry: the scaled product where the key is not after the query, minus infinity elsewhere. -/
theorem pay22_apply (a b : ℕ) (ha : a < 16) (hb : b < 4) (q : Vec Ideal S16x128x640 .bf16) (k : Vec Ideal S512x640 .bf16) (r : Fin 2048) (κ : Fin 512) :
    k0_pay22 (BitVec.ofNat 32 a) (BitVec.ofNat 32 b) q k (ix2 r κ) = scm a b q k r κ := by
  pointwise [k0_pay22, k0_pay20]
  rw [row_word, named_scale2, named_mask]
  have e1 : IntOp.addi (Scalar.muli (BitVec.ofNat 32 b) 512#32) (BitVec.ofNat 32 κ.val) = BitVec.ofNat 32 (512 * b + κ.val) := by
    show BitVec.ofNat 32 b * BitVec.ofNat 32 512 + _ = _
    rw [← BitVec.ofNat_mul, ← BitVec.ofNat_add, Nat.mul_comm]
  have e2 : IntOp.addi (Scalar.muli (BitVec.ofNat 32 a) 128#32) (BitVec.ofNat 32 (r.val % 128)) = BitVec.ofNat 32 (128 * a + r.val % 128) := by
    show BitVec.ofNat 32 a * BitVec.ofNat 32 128 + _ = _
    rw [← BitVec.ofNat_mul, ← BitVec.ofNat_add, Nat.mul_comm]
  rw [e1, e2, sle_ofNat _ _ (by omega) (by omega)]
  unfold scm sc
  by_cases h : 512 * b + κ.val ≤ 128 * a + r.val % 128
  · rw [if_pos h, if_pos h]; rfl
  · rw [if_neg h, if_neg h]; rfl

/-- The scores of the diagonal block as one array. -/
theorem pay22_eq (a b : ℕ) (ha : a < 16) (hb : b < 4) (q : Vec Ideal S16x128x640 .bf16) (k : Vec Ideal S512x640 .bf16) :
    k0_pay22 (BitVec.ofNat 32 a) (BitVec.ofNat 32 b) q k = fun j => scm a b q k (j 0) (j 1) := by
  funext j
  exact (congrArg _ (eq_ix2 j)).trans (pay22_apply a b ha hb q k (j 0) (j 1))

/-- The new maximum of a row. -/
def newM (s : Fin 2048 → Fin 512 → EReal) (M : Fin 2048 → EReal) (r : Fin 2048) : EReal :=
  max (M r) (Finset.univ.fold max ⊥ (s r))

/-- The new running maximum after an unmasked block. -/
theorem pay15_eq (q : Vec Ideal S16x128x640 .bf16) (k : Vec Ideal S512x640 .bf16) (M : Fin 2048 → EReal) :
    k0_pay15 q k (lanes M) = lanes (newM (sc q k) M) := by
  funext j
  idx_vars j
  pointwise [k0_pay15, lanes, newM]
  simp only [pay14_apply, ofBits_neg_inf]

/-- The new running maximum after the diagonal block. -/
theorem pay23_eq (a b : ℕ) (ha : a < 16) (hb : b < 4) (q : Vec Ideal S16x128x640 .bf16) (k : Vec Ideal S512x640 .bf16) (M : Fin 2048 → EReal) :
    k0_pay23 (BitVec.ofNat 32 a) (BitVec.ofNat 32 b) q k (lanes M) = lanes (newM (scm a b q k) M) := by
  funext j
  idx_vars j
  pointwise [k0_pay23, lanes, newM]
  simp only [pay22_apply a b ha hb, ofBits_neg_inf]

/-- The factor a row's earlier sums are rescaled by. -/
theorem pay5_eq (M M' : Fin 2048 → EReal) : k0_pay5 (lanes M) (lanes M') = lanes fun r => Ideal.exp2 (M r - M' r) := rfl

/-- The weights of a block's keys. -/
theorem pay6_eq (s : Fin 2048 → Fin 512 → EReal) (M' : Fin 2048 → EReal) :
    k0_pay6 (fun j => s (j 0) (j 1)) (lanes M') = fun j => Ideal.exp2 (s (j 0) (j 1) - M' (j 0)) := by
  unfold k0_pay6
  rw [concat_lanes]
  rfl

/-- The running sum of exponentials after a block: the old one rescaled, plus the block's row sums. -/
theorem pay7_eq (s : Fin 2048 → Fin 512 → EReal) (M M' L : Fin 2048 → EReal) :
    k0_pay7 (fun j => s (j 0) (j 1)) (lanes M) (lanes M') (lanes L)
      = lanes fun r => Ideal.exp2 (M r - M' r) * L r + ∑ κ, Ideal.exp2 (s r κ - M' r) := by
  unfold k0_pay7
  rw [pay5_eq, pay6_eq]
  funext j
  pointwise [lanes]

/-- The running weighted values after a block: the old ones rescaled, plus the block's product of weights and values. -/
theorem pay8_eq (v : FVec Ideal S512x512 .bf16) (s : Fin 2048 → Fin 512 → EReal) (M M' : Fin 2048 → EReal) (acc : FVec Ideal S2048x512 .f32) :
    k0_pay8 v (fun j => s (j 0) (j 1)) (lanes M) (lanes M') acc
      = fun j => Ideal.exp2 (M (j 0) - M' (j 0)) * acc j + ∑ κ, Ideal.exp2 (s (j 0) κ - M' (j 0)) * v (ix2 κ (j 1)) := by
  unfold k0_pay8
  rw [pay5_eq, pay6_eq, concat_lanes]
  funext j
  pointwise

/-- The block without a mask takes the same step. -/
theorem pay18_eq (q : Vec Ideal S16x128x640 .bf16) (k : Vec Ideal S512x640 .bf16) (m l : FVec Ideal S2048x128 .f32) :
    k0_pay18 q k m l = k0_pay7 (k0_pay14 q k) m (k0_pay15 q k m) l := rfl

/-- The rescaling factor of an unmasked block, from the old and the new maximum. -/
theorem pay19_eq (q : Vec Ideal S16x128x640 .bf16) (k : Vec Ideal S512x640 .bf16) (m : FVec Ideal S2048x128 .f32) (acc : FVec Ideal S2048x512 .f32) :
    k0_pay19 q k m acc = k0_pay8 (k0_pay21 k) (k0_pay14 q k) m (k0_pay15 q k m) acc := rfl

/-- The values are the first 512 lanes of the keys. -/
theorem pay21_apply (k : Vec Ideal S512x640 .bf16) (κ : Fin 512) (c : Fin 512) :
    k0_pay21 k (ix2 κ c) = k (ix2 κ (⟨c.val, by omega⟩ : Fin 640)) := by
  pointwise [k0_pay21, k0_pay20]

/-- A store of the whole array stores the array itself. -/
theorem pay4_eq (x : FVec Ideal S2048x128 .f32) : k0_pay4 x = x := shapeCast_self _ _
/-- A store of the whole array stores the array itself. -/
theorem pay9_eq (x : FVec Ideal S2048x128 .f32) : k0_pay9 x = x := shapeCast_self _ _

/-- The scratch as the first block of keys finds it. -/
theorem pay1_eq : (k0_pay1 : FVec Ideal S2048x128 .f32) = lanes fun _ => ⊥ := by
  funext j
  pointwise [k0_pay1, lanes]
  exact named_mask
/-- The running sum starts at zero. -/
theorem pay2_eq : (k0_pay2 : FVec Ideal S2048x128 .f32) = lanes fun _ => 0 := by
  funext j
  pointwise [k0_pay2, lanes]
/-- The running weighted values start at zero. -/
theorem pay3_eq : (k0_pay3 : FVec Ideal S2048x512 .f32) = fun _ => 0 := by
  funext j
  pointwise [k0_pay3]

/-- The normalised rows. -/
theorem pay24_apply (acc : FVec Ideal S2048x512 .f32) (L : Fin 2048 → EReal) (j : S2048x512.Idx) :
    (k0_pay24 acc (lanes L) : FVec Ideal S2048x512 .bf16) j = (Ideal.div (acc j) (L (j 0)) : EReal) := by
  unfold k0_pay24
  rw [concat_lanes]
  rfl

end Cert.Pay

end
-- ==== Proof.Points.lean ====
/- What the kernel's body leaves in its scratch and in its output block, case by case. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Points

open Idealize.ShloMosaic Cert.KernelIdeal Cert.KernelIdeal.Gen

variable (c : Dev nD) (i : grid0.Coords)
  (a3 : Memref sig .tc .vmem S16x128x640 .bf16) (h3 : a3.IsWhole) (a4 : Memref sig .tc .vmem S512x640 .bf16) (h4 : a4.IsWhole)
  (a5 : Memref sig .tc .vmem S16x512x128 .bf16) (h5 : a5.IsWhole) (a6 : Memref sig .tc .vmem S128x2048 .bf16) (h6 : a6.IsWhole)
  (a7 : Memref sig .tc .vmem S2048x128 .f32) (h7 : a7.IsWhole) (a8 : Memref sig .tc .vmem S2048x128 .f32) (h8 : a8.IsWhole)
  (a9 : Memref sig .tc .vmem S2048x512 .f32) (h9 : a9.IsWhole)
  (q : Vec Ideal S16x128x640 .bf16) (k : Vec Ideal S512x640 .bf16) (u : Vec Ideal S16x512x128 .bf16)
  (M L : Vec Ideal S2048x128 .f32) (A : Vec Ideal S2048x512 .f32)

/-- What the body carries between points: each row's running maximum, its sum of weights, its weighted values. -/
abbrev Carried := Vec Ideal S2048x128 .f32 × Vec Ideal S2048x128 .f32 × Vec Ideal S2048x512 .f32

/-- The scratch as a row's first block of keys finds it. -/
def init : Carried := (k0_pay1 (F := Ideal), k0_pay2 (F := Ideal), k0_pay3 (F := Ideal))

/-- The step over a block of keys all of which the rows may see. -/
def stepU (q : Vec Ideal S16x128x640 .bf16) (k : Vec Ideal S512x640 .bf16) (S : Carried) : Carried :=
  (k0_pay4 (k0_pay15 q k S.1), k0_pay18 q k S.1 S.2.1, k0_pay19 q k S.1 S.2.2)

/-- The step over the block of keys on the diagonal, with the causal mask. -/
def stepM (a b : BitVec 32) (q : Vec Ideal S16x128x640 .bf16) (k : Vec Ideal S512x640 .bf16) (S : Carried) : Carried :=
  (k0_pay9 (k0_pay23 a b q k S.1), k0_pay7 (k0_pay22 a b q k) S.1 (k0_pay23 a b q k S.1) S.2.1,
    k0_pay8 (k0_pay21 k) (k0_pay22 a b q k) S.1 (k0_pay23 a b q k S.1) S.2.2)

/-- The output block: the sixteen heads' products beside each other. -/
def outBlk (u : Vec Ideal S16x512x128 .bf16) (A : Vec Ideal S2048x512 .f32) (L : Vec Ideal S2048x128 .f32) : Vec Ideal S128x2048 .bf16 :=
  View.canon [⟨Rect.unit ![0, 1920] ![128, 128] inb_S128x2048_S128x128_0_1920, k0_pay12 (k0_pay24 A L) (View.ld u (Rect.unit ![15, 0, 0] ![1, 512, 128] inb_S16x512x128_S1x512x128_15_0_0))⟩,
    ⟨Rect.unit ![0, 1792] ![128, 128] inb_S128x2048_S128x128_0_1792, k0_pay11 (k0_pay24 A L) (View.ld u (Rect.unit ![14, 0, 0] ![1, 512, 128] inb_S16x512x128_S1x512x128_14_0_0))⟩,
    ⟨Rect.unit ![0, 1664] ![128, 128] inb_S128x2048_S128x128_0_1664, k0_pay10 (k0_pay40 (k0_pay24 A L)) (View.ld u (Rect.unit ![13, 0, 0] ![1, 512, 128] inb_S16x512x128_S1x512x128_13_0_0))⟩,
    ⟨Rect.unit ![0, 1536] ![128, 128] inb_S128x2048_S128x128_0_1536, k0_pay39 (k0_pay24 A L) (View.ld u (Rect.unit ![12, 0, 0] ![1, 512, 128] inb_S16x512x128_S1x512x128_12_0_0))⟩,
    ⟨Rect.unit ![0, 1408] ![128, 128] inb_S128x2048_S128x128_0_1408, k0_pay38 (k0_pay24 A L) (View.ld u (Rect.unit ![11, 0, 0] ![1, 512, 128] inb_S16x512x128_S1x512x128_11_0_0))⟩,
    ⟨Rect.unit ![0, 1280] ![128, 128] inb_S128x2048_S128x128_0_1280, k0_pay37 (k0_pay24 A L) (View.ld u (Rect.unit ![10, 0, 0] ![1, 512, 128] inb_S16x512x128_S1x512x128_10_0_0))⟩,
    ⟨Rect.unit ![0, 1152] ![128, 128] inb_S128x2048_S128x128_0_1152, k0_pay36 (k0_pay24 A L) (View.ld u (Rect.unit ![9, 0, 0] ![1, 512, 128] inb_S16x512x128_S1x512x128_9_0_0))⟩,
    ⟨Rect.unit ![0, 1024] ![128, 128] inb_S128x2048_S128x128_0_1024, k0_pay35 (k0_pay33 (k0_pay24 A L)) (k0_pay34 (View.ld u (Rect.unit ![8, 0, 0] ![1, 512, 128] inb_S16x512x128_S1x512x128_8_0_0))) (constant S128x128 FTy.f32 0#32)⟩,
    ⟨Rect.unit ![0, 896] ![128, 128] inb_S128x2048_S128x128_0_896, k0_pay32 (k0_pay24 A L) (View.ld u (Rect.unit ![7, 0, 0] ![1, 512, 128] inb_S16x512x128_S1x512x128_7_0_0))⟩,
    ⟨Rect.unit ![0, 768] ![128, 128] inb_S128x2048_S128x128_0_768, k0_pay31 (k0_pay24 A L) (View.ld u (Rect.unit ![6, 0, 0] ![1, 512, 128] inb_S16x512x128_S1x512x128_6_0_0))⟩,
    ⟨Rect.unit ![0, 640] ![128, 128] inb_S128x2048_S128x128_0_640, k0_pay30 (k0_pay24 A L) (View.ld u (Rect.unit ![5, 0, 0] ![1, 512, 128] inb_S16x512x128_S1x512x128_5_0_0))⟩,
    ⟨Rect.unit ![0, 512] ![128, 128] inb_S128x2048_S128x128_0_512, k0_pay29 (k0_pay24 A L) (View.ld u (Rect.unit ![4, 0, 0] ![1, 512, 128] inb_S16x512x128_S1x512x128_4_0_0))⟩,
    ⟨Rect.unit ![0, 384] ![128, 128] inb_S128x2048_S128x128_0_384, k0_pay28 A L (View.ld u (Rect.unit ![3, 0, 0] ![1, 512, 128] inb_S16x512x128_S1x512x128_3_0_0))⟩,
    ⟨Rect.unit ![0, 256] ![128, 128] inb_S128x2048_S128x128_0_256, k0_pay27 A L (View.ld u (Rect.unit ![2, 0, 0] ![1, 512, 128] inb_S16x512x128_S1x512x128_2_0_0))⟩,
    ⟨Rect.unit ![0, 128] ![128, 128] inb_S128x2048_S128x128_0_128, k0_pay26 A L (View.ld u (Rect.unit ![1, 0, 0] ![1, 512, 128] inb_S16x512x128_S1x512x128_1_0_0))⟩,
    ⟨Rect.unit ![0, 0] ![128, 128] inb_S128x2048_S128x128_0_0, k0_pay25 A L (View.ld u (Rect.unit ![0, 0, 0] ![1, 512, 128] inb_S16x512x128_S1x512x128_0_0_0))⟩]

/-- The first block is the one on the diagonal: the running maxima. -/
theorem sA0 (hc0 : cond0_0 i) (hc1 : ¬cond0_1 i) (hc2 : cond0_2 i) (hc3 : ¬cond0_3 i) :
    sout0_A_0 c i a3 h3 a4 h4 a5 h5 a6 h6 a7 h7 a8 h8 a9 h9 hc0 hc1 hc2 hc3 q k u = (stepM (BitVec.ofNat 32 (i 1).val) (BitVec.ofNat 32 (i 2).val) q k init).1 := by
  dsimp only [stepU, stepM, init]
  frame_out

/-- The first block is the one on the diagonal: the sums of weights. -/
theorem sA1 (hc0 : cond0_0 i) (hc1 : ¬cond0_1 i) (hc2 : cond0_2 i) (hc3 : ¬cond0_3 i) :
    sout0_A_1 c i a3 h3 a4 h4 a5 h5 a6 h6 a7 h7 a8 h8 a9 h9 hc0 hc1 hc2 hc3 q k u = (stepM (BitVec.ofNat 32 (i 1).val) (BitVec.ofNat 32 (i 2).val) q k init).2.1 := by
  dsimp only [stepU, stepM, init]
  frame_out

/-- The first block is the one on the diagonal: the weighted values. -/
theorem sA2 (hc0 : cond0_0 i) (hc1 : ¬cond0_1 i) (hc2 : cond0_2 i) (hc3 : ¬cond0_3 i) :
    sout0_A_2 c i a3 h3 a4 h4 a5 h5 a6 h6 a7 h7 a8 h8 a9 h9 hc0 hc1 hc2 hc3 q k u = (stepM (BitVec.ofNat 32 (i 1).val) (BitVec.ofNat 32 (i 2).val) q k init).2.2 := by
  dsimp only [stepU, stepM, init]
  frame_out

/-- The first block, when later ones follow: the running maxima. -/
theorem sD0 (hc0 : cond0_0 i) (hc1 : cond0_1 i) (hc2 : ¬cond0_2 i) (hc3 : ¬cond0_3 i) :
    sout0_D_0 c i a3 h3 a4 h4 a5 h5 a6 h6 a7 h7 a8 h8 a9 h9 hc0 hc1 hc2 hc3 q k u = (stepU q k init).1 := by
  dsimp only [stepU, stepM, init]
  frame_out

/-- The first block, when later ones follow: the sums of weights. -/
theorem sD1 (hc0 : cond0_0 i) (hc1 : cond0_1 i) (hc2 : ¬cond0_2 i) (hc3 : ¬cond0_3 i) :
    sout0_D_1 c i a3 h3 a4 h4 a5 h5 a6 h6 a7 h7 a8 h8 a9 h9 hc0 hc1 hc2 hc3 q k u = (stepU q k init).2.1 := by
  dsimp only [stepU, stepM, init]
  frame_out

/-- The first block, when later ones follow: the weighted values. -/
theorem sD2 (hc0 : cond0_0 i) (hc1 : cond0_1 i) (hc2 : ¬cond0_2 i) (hc3 : ¬cond0_3 i) :
    sout0_D_2 c i a3 h3 a4 h4 a5 h5 a6 h6 a7 h7 a8 h8 a9 h9 hc0 hc1 hc2 hc3 q k u = (stepU q k init).2.2 := by
  dsimp only [stepU, stepM, init]
  frame_out

/-- The block on the diagonal, not the last of the grid: the running maxima. -/
theorem sE0 (hc0 : ¬cond0_0 i) (hc1 : ¬cond0_1 i) (hc2 : cond0_2 i) (hc3 : ¬cond0_3 i) :
    sout0_E_0 c i a3 h3 a4 h4 a5 h5 a6 h6 a7 h7 a8 h8 a9 h9 hc0 hc1 hc2 hc3 q k u M L A = (stepM (BitVec.ofNat 32 (i 1).val) (BitVec.ofNat 32 (i 2).val) q k (M, L, A)).1 := by
  dsimp only [stepU, stepM, init]
  frame_out

/-- The block on the diagonal, not the last of the grid: the sums of weights. -/
theorem sE1 (hc0 : ¬cond0_0 i) (hc1 : ¬cond0_1 i) (hc2 : cond0_2 i) (hc3 : ¬cond0_3 i) :
    sout0_E_1 c i a3 h3 a4 h4 a5 h5 a6 h6 a7 h7 a8 h8 a9 h9 hc0 hc1 hc2 hc3 q k u M L A = (stepM (BitVec.ofNat 32 (i 1).val) (BitVec.ofNat 32 (i 2).val) q k (M, L, A)).2.1 := by
  dsimp only [stepU, stepM, init]
  frame_out

/-- The block on the diagonal, not the last of the grid: the weighted values. -/
theorem sE2 (hc0 : ¬cond0_0 i) (hc1 : ¬cond0_1 i) (hc2 : cond0_2 i) (hc3 : ¬cond0_3 i) :
    sout0_E_2 c i a3 h3 a4 h4 a5 h5 a6 h6 a7 h7 a8 h8 a9 h9 hc0 hc1 hc2 hc3 q k u M L A = (stepM (BitVec.ofNat 32 (i 1).val) (BitVec.ofNat 32 (i 2).val) q k (M, L, A)).2.2 := by
  dsimp only [stepU, stepM, init]
  frame_out

/-- A block before the one on the diagonal: the running maxima. -/
theorem sF0 (hc0 : ¬cond0_0 i) (hc1 : cond0_1 i) (hc2 : ¬cond0_2 i) (hc3 : ¬cond0_3 i) :
    sout0_F_0 c i a3 h3 a4 h4 a5 h5 a6 h6 a7 h7 a8 h8 a9 h9 hc0 hc1 hc2 hc3 q k u M L A = (stepU q k (M, L, A)).1 := by
  dsimp only [stepU, stepM, init]
  frame_out

/-- A block before the one on the diagonal: the sums of weights. -/
theorem sF1 (hc0 : ¬cond0_0 i) (hc1 : cond0_1 i) (hc2 : ¬cond0_2 i) (hc3 : ¬cond0_3 i) :
    sout0_F_1 c i a3 h3 a4 h4 a5 h5 a6 h6 a7 h7 a8 h8 a9 h9 hc0 hc1 hc2 hc3 q k u M L A = (stepU q k (M, L, A)).2.1 := by
  dsimp only [stepU, stepM, init]
  frame_out

/-- A block before the one on the diagonal: the weighted values. -/
theorem sF2 (hc0 : ¬cond0_0 i) (hc1 : cond0_1 i) (hc2 : ¬cond0_2 i) (hc3 : ¬cond0_3 i) :
    sout0_F_2 c i a3 h3 a4 h4 a5 h5 a6 h6 a7 h7 a8 h8 a9 h9 hc0 hc1 hc2 hc3 q k u M L A = (stepU q k (M, L, A)).2.2 := by
  dsimp only [stepU, stepM, init]
  frame_out

/-- The block on the diagonal, the last of the grid: the running maxima. -/
theorem sG0 (hc0 : ¬cond0_0 i) (hc1 : ¬cond0_1 i) (hc2 : cond0_2 i) (hc3 : cond0_3 i) :
    sout0_G_0 c i a3 h3 a4 h4 a5 h5 a6 h6 a7 h7 a8 h8 a9 h9 hc0 hc1 hc2 hc3 q k u M L A = (stepM (BitVec.ofNat 32 (i 1).val) (BitVec.ofNat 32 (i 2).val) q k (M, L, A)).1 := by
  dsimp only [stepU, stepM, init]
  frame_out

/-- The block on the diagonal, the last of the grid: the sums of weights. -/
theorem sG1 (hc0 : ¬cond0_0 i) (hc1 : ¬cond0_1 i) (hc2 : cond0_2 i) (hc3 : cond0_3 i) :
    sout0_G_1 c i a3 h3 a4 h4 a5 h5 a6 h6 a7 h7 a8 h8 a9 h9 hc0 hc1 hc2 hc3 q k u M L A = (stepM (BitVec.ofNat 32 (i 1).val) (BitVec.ofNat 32 (i 2).val) q k (M, L, A)).2.1 := by
  dsimp only [stepU, stepM, init]
  frame_out

/-- The block on the diagonal, the last of the grid: the weighted values. -/
theorem sG2 (hc0 : ¬cond0_0 i) (hc1 : ¬cond0_1 i) (hc2 : cond0_2 i) (hc3 : cond0_3 i) :
    sout0_G_2 c i a3 h3 a4 h4 a5 h5 a6 h6 a7 h7 a8 h8 a9 h9 hc0 hc1 hc2 hc3 q k u M L A = (stepM (BitVec.ofNat 32 (i 1).val) (BitVec.ofNat 32 (i 2).val) q k (M, L, A)).2.2 := by
  dsimp only [stepU, stepM, init]
  frame_out

/-- The output block, when the last block of the grid is skipped. -/
theorem oC (hc0 : ¬cond0_0 i) (hc1 : ¬cond0_1 i) (hc2 : ¬cond0_2 i) (hc3 : cond0_3 i) :
    out0_C_3 c i a3 h3 a4 h4 a5 h5 a6 h6 a7 h7 a8 h8 a9 h9 hc0 hc1 hc2 hc3 q k u M L A = outBlk u A L := by
  dsimp only [stepM, outBlk]
  funext y
  frame_out

/-- The output block, when the last block of the grid is the one on the diagonal. -/
theorem oG (hc0 : ¬cond0_0 i) (hc1 : ¬cond0_1 i) (hc2 : cond0_2 i) (hc3 : cond0_3 i) :
    out0_G_3 c i a3 h3 a4 h4 a5 h5 a6 h6 a7 h7 a8 h8 a9 h9 hc0 hc1 hc2 hc3 q k u M L A = outBlk u (stepM (BitVec.ofNat 32 (i 1).val) (BitVec.ofNat 32 (i 2).val) q k (M, L, A)).2.2 (stepM (BitVec.ofNat 32 (i 1).val) (BitVec.ofNat 32 (i 2).val) q k (M, L, A)).2.1 := by
  dsimp only [stepM, outBlk]
  funext y
  frame_out

end Cert.Points

end
-- ==== Proof.Run.lean ====
/- The running softmax over a query block's keys: what the carried scratch holds after each block of keys. -/
module

public import proofs.«01_k».proof.Proof.Pay
public import proofs.«01_k».proof.Proof.Points

@[expose] public section

set_option maxRecDepth 16384

noncomputable section

namespace Cert.Run

open Idealize.ShloMosaic Cert.KernelIdeal Cert.KernelIdeal.Gen Cert.Points Cert.Pay Cert.Soft

/-- The weight of key `κ` for row `r` of query block `a`: `exp (q · k / √192)` for the keys up to the query's own, nothing after it. -/
def wt (a : ℕ) (Q : Fin 2048 → Fin 640 → ℝ) (K : ℕ → Fin 640 → ℝ) (r : Fin 2048) (κ : ℕ) : ℝ :=
  if κ ≤ 128 * a + r.val % 128 then Real.exp ((∑ x : Fin 640, Q r x * K κ x) * (Real.sqrt 192)⁻¹) else 0

/-- The weights of the first `J` blocks of keys. -/
def sumW (a : ℕ) (Q : Fin 2048 → Fin 640 → ℝ) (K : ℕ → Fin 640 → ℝ) (J : ℕ) (r : Fin 2048) : ℝ :=
  ∑ b ∈ Finset.range J, ∑ κ : Fin 512, wt a Q K r (512 * b + κ.val)

/-- The weighted values of the first `J` blocks of keys. -/
def sumA (a : ℕ) (Q : Fin 2048 → Fin 640 → ℝ) (K : ℕ → Fin 640 → ℝ) (J : ℕ) (r : Fin 2048) (c : Fin 512) : ℝ :=
  ∑ b ∈ Finset.range J, ∑ κ : Fin 512, wt a Q K r (512 * b + κ.val) * K (512 * b + κ.val) ⟨c.val, by omega⟩

/-- The scratch after `J` blocks of keys: every row's running softmax stands for the weights so far. -/
def Holds (a : ℕ) (Q : Fin 2048 → Fin 640 → ℝ) (K : ℕ → Fin 640 → ℝ) (J : ℕ) (S : Carried) : Prop :=
  ∃ M L : Fin 2048 → EReal, S.1 = lanes M ∧ S.2.1 = lanes L ∧ (∀ r, 0 < J → M r ≠ ⊥) ∧
    ∀ r, Inv (M r) (L r) (fun c : Fin 512 => (S.2.2 (ix2 r c) : EReal)) (sumW a Q K J r) (sumA a Q K J r)

/-- The queries' block and the keys' block, as reals. -/
def Reads (Q : Fin 2048 → Fin 640 → ℝ) (K : ℕ → Fin 640 → ℝ) (b : ℕ) (q : Vec Ideal S16x128x640 .bf16) (k : Vec Ideal S512x640 .bf16) : Prop :=
  (∀ (r : Fin 2048) (x : Fin 640), q (ix3 (⟨r.val / 128, by omega⟩ : Fin 16) (⟨r.val % 128, by omega⟩ : Fin 128) x) = ((Q r x : ℝ) : EReal)) ∧
  ∀ (κ : Fin 512) (x : Fin 640), k (ix2 κ x) = ((K (512 * b + κ.val) x : ℝ) : EReal)

variable {a : ℕ} {Q : Fin 2048 → Fin 640 → ℝ} {K : ℕ → Fin 640 → ℝ} {b : ℕ} {q : Vec Ideal S16x128x640 .bf16} {k : Vec Ideal S512x640 .bf16}

/-- A scaled score is real. -/
theorem sc_coe (h : Reads Q K b q k) (r : Fin 2048) (κ : Fin 512) :
    sc q k r κ = (((∑ x : Fin 640, Q r x * K (512 * b + κ.val) x) * ((Real.sqrt 192)⁻¹ * (Real.log 2)⁻¹) : ℝ) : EReal) := by
  unfold sc
  refine Eq.trans ?_ (EReal.coe_mul _ _).symm
  rw [coe_sum]
  refine congrArg (· * _) ?_
  exact Finset.sum_congr rfl fun x _ => by rw [h.1 r x, h.2 κ x, EReal.coe_mul]

/-- A score whose key the query may see stands for its weight. -/
theorem rep_sc (h : Reads Q K b q k) (r : Fin 2048) (κ : Fin 512) (hκ : 512 * b + κ.val ≤ 128 * a + r.val % 128) :
    Rep (sc q k r κ) (wt a Q K r (512 * b + κ.val)) := by
  refine .inr ⟨_, sc_coe h r κ, ?_⟩
  rw [two_rpow_scale, wt, if_pos hκ]

/-- A masked score stands for its weight. -/
theorem rep_scm (h : Reads Q K b q k) (r : Fin 2048) (κ : Fin 512) : Rep (scm a b q k r κ) (wt a Q K r (512 * b + κ.val)) := by
  unfold scm
  by_cases hκ : 512 * b + κ.val ≤ 128 * a + r.val % 128
  · rw [if_pos hκ]; exact rep_sc h r κ hκ
  · rw [if_neg hκ, wt, if_neg hκ]; exact .inl ⟨rfl, rfl⟩

/-- Before the first block. -/
theorem holds_init : Holds a Q K 0 init := by
  refine ⟨fun _ => ⊥, fun _ => 0, pay1_eq, pay2_eq, fun r h => absurd h (by omega), fun r => .inl ⟨rfl, rfl, fun c => ?_, rfl, fun c => rfl⟩⟩
  show (k0_pay3 (F := Ideal)) (ix2 r c) = _
  rw [pay3_eq]

/-- One block's step, for either kind of scores. -/
theorem holds_step {S S' : Carried} (h : Reads Q K b q k) (hS : Holds a Q K b S) (s : Fin 2048 → Fin 512 → EReal)
    (hs : ∀ r κ, Rep (s r κ) (wt a Q K r (512 * b + κ.val))) (hne : ∀ r, 0 < b ∨ ∃ κ, s r κ ≠ ⊥)
    (h0 : ∀ M : Fin 2048 → EReal, S.1 = lanes M → S'.1 = lanes (newM s M))
    (h1 : ∀ M L : Fin 2048 → EReal, S.1 = lanes M → S.2.1 = lanes L →
      S'.2.1 = lanes fun r => Ideal.exp2 (M r - newM s M r) * L r + ∑ κ, Ideal.exp2 (s r κ - newM s M r))
    (h2 : ∀ M : Fin 2048 → EReal, S.1 = lanes M → S'.2.2 = fun j => Ideal.exp2 (M (j 0) - newM s M (j 0)) * S.2.2 j
      + ∑ κ, Ideal.exp2 (s (j 0) κ - newM s M (j 0)) * k0_pay21 k (ix2 κ (j 1))) :
    Holds a Q K (b + 1) S' := by
  obtain ⟨M, L, hM, hL, hb, hI⟩ := hS
  have hv : ∀ (κ c : Fin 512), (k0_pay21 k (ix2 κ c) : EReal) = ((K (512 * b + κ.val) ⟨c.val, by omega⟩ : ℝ) : EReal) := fun κ c => by
    rw [pay21_apply]; exact h.2 κ _
  have step := fun r => (hI r).step (s r) _ (hs r) (fun κ c => (k0_pay21 k (ix2 κ c) : EReal)) _ hv ((hne r).imp (hb r) id)
  refine ⟨_, _, h0 M hM, h1 M L hM hL, fun r _ => (step r).1, fun r => ?_⟩
  have e := (step r).2
  rw [h2 M hM]
  unfold sumW
  rw [Finset.sum_range_succ]
  have e2 : sumA a Q K (b + 1) r = fun c => sumA a Q K b r c + ∑ κ : Fin 512, wt a Q K r (512 * b + κ.val) * K (512 * b + κ.val) ⟨c.val, by omega⟩ := by
    funext c
    unfold sumA
    rw [Finset.sum_range_succ]
  rw [e2]
  exact e

/-- A block of keys before the query block. -/
theorem holds_stepU {S : Carried} (h : Reads Q K b q k) (hS : Holds a Q K b S) (hb : 4 * b + 4 ≤ a) : Holds a Q K (b + 1) (stepU q k S) := by
  refine holds_step h hS (sc q k) (fun r κ => rep_sc h r κ (by omega)) (fun r => .inr ⟨0, ?_⟩) ?_ ?_ ?_
  · rw [sc_coe h]; exact EReal.coe_ne_bot _
  · intro M hM
    show k0_pay4 (k0_pay15 q k S.1) = _
    rw [pay4_eq, hM, pay15_eq]
  · intro M L hM hL
    show k0_pay18 q k S.1 S.2.1 = _
    rw [hM, hL, pay18_eq, pay15_eq, pay14_eq, pay7_eq]
  · intro M hM
    show k0_pay19 q k S.1 S.2.2 = _
    rw [hM, pay19_eq, pay15_eq, pay14_eq, pay8_eq]

/-- The block of keys on the diagonal. -/
theorem holds_stepM {S : Carried} (h : Reads Q K b q k) (hS : Holds a Q K b S) (ha : a < 16) (hb : b < 4) :
    Holds a Q K (b + 1) (stepM (BitVec.ofNat 32 a) (BitVec.ofNat 32 b) q k S) := by
  refine holds_step h hS (scm a b q k) (fun r κ => rep_scm h r κ) (fun r => ?_) ?_ ?_ ?_
  · rcases Nat.eq_zero_or_pos b with hz | hp
    · refine .inr ⟨0, ?_⟩
      rw [scm, if_pos (by rw [hz]; exact Nat.zero_le _), sc_coe h]
      exact EReal.coe_ne_bot _
    · exact .inl hp
  · intro M hM
    show k0_pay9 (k0_pay23 _ _ q k S.1) = _
    rw [pay9_eq, hM, pay23_eq a b ha hb]
  · intro M L hM hL
    show k0_pay7 (k0_pay22 _ _ q k) S.1 (k0_pay23 _ _ q k S.1) S.2.1 = _
    rw [hM, hL, pay23_eq a b ha hb, pay22_eq a b ha hb, pay7_eq]
  · intro M hM
    show k0_pay8 (k0_pay21 k) (k0_pay22 _ _ q k) S.1 (k0_pay23 _ _ q k S.1) S.2.2 = _
    rw [hM, pay23_eq a b ha hb, pay22_eq a b ha hb, pay8_eq]

/-- A block of keys after the query block weighs nothing. -/
theorem holds_skip {S : Carried} (hS : Holds a Q K b S) (hb : a < 4 * b) : Holds a Q K (b + 1) S := by
  obtain ⟨M, L, hM, hL, hm, hI⟩ := hS
  have hw : ∀ (r : Fin 2048) (κ : Fin 512), wt a Q K r (512 * b + κ.val) = 0 := fun r κ => if_neg (by omega)
  refine ⟨M, L, hM, hL, fun r _ => hm r (by omega), fun r => ?_⟩
  have e1 : sumW a Q K (b + 1) r = sumW a Q K b r := by
    unfold sumW
    rw [Finset.sum_range_succ]
    simp only [hw, Finset.sum_const_zero, add_zero]
  have e2 : sumA a Q K (b + 1) r = sumA a Q K b r := by
    funext c
    unfold sumA
    rw [Finset.sum_range_succ]
    simp only [hw, zero_mul, Finset.sum_const_zero, add_zero]
  rw [e1, e2]
  exact hI r

/-- A row's weights are positive in all. -/
theorem sumW_pos (J : ℕ) (hJ : 0 < J) (r : Fin 2048) : 0 < sumW a Q K J r := by
  have hn : ∀ κ, 0 ≤ wt a Q K r κ := fun κ => by
    unfold wt
    split_ifs
    · exact (Real.exp_pos _).le
    · exact le_rfl
  refine Finset.sum_pos' (fun b _ => Finset.sum_nonneg fun κ _ => hn _) ⟨0, Finset.mem_range.mpr hJ, ?_⟩
  refine Finset.sum_pos' (fun κ _ => hn _) ⟨0, Finset.mem_univ _, ?_⟩
  rw [wt, if_pos (show 512 * 0 + ((0 : Fin 512) : ℕ) ≤ 128 * a + r.val % 128 from Nat.zero_le _)]
  exact Real.exp_pos _

/-- The normalised rows, after the last block. -/
theorem holds_div {J : ℕ} (hJ : 0 < J) {S : Carried} (hS : Holds a Q K J S) (r : Fin 2048) (c : Fin 512) :
    (k0_pay24 S.2.2 S.2.1 : FVec Ideal S2048x512 .bf16) (ix2 r c) = ((sumA a Q K J r c / sumW a Q K J r : ℝ) : EReal) := by
  obtain ⟨M, L, hM, hL, hm, hI⟩ := hS
  rw [hL, pay24_apply]
  exact (hI r).div (sumW_pos J hJ r) c

end Cert.Run

end
-- ==== Proof.Out.lean ====
/- The output block at an index: each head's normalised row against its own matrix. -/
module

public import proofs.«01_k».proof.Proof.Points
public import Idealize.ShloMosaic.Lib.Pointwise
public import Idealize.ShloMosaic.Lib.Pipeline.ValueKit

@[expose] public section

set_option maxRecDepth 16384

noncomputable section

namespace Cert.Out

open Idealize.ShloMosaic Cert.KernelIdeal Cert.KernelIdeal.Gen Cert.Points

/-- The product of one row and one column, at the same row, matrix and column. -/
theorem prod_at (X : FVec Ideal S2048x512 .bf16) (u : Vec Ideal S16x512x128 .bf16) (R R' : Fin 2048) (H H' : Fin 16) (v v' : Fin 128)
    (hR : R.val = R'.val) (hH : H.val = H'.val) (hv : v.val = v'.val) :
    (∑ c : Fin 512, X (ix2 R c) * u (ix3 H c v)) = ∑ c : Fin 512, X (ix2 R' c) * u (ix3 H' c v') := by
  obtain rfl := Fin.ext hR
  obtain rfl := Fin.ext hH
  obtain rfl := Fin.ext hv
  rfl

/-- The output block at an index: row `y 0` of head `y 1 / 128`, column `y 1 % 128`. -/
theorem outBlk_apply (u : Vec Ideal S16x512x128 .bf16) (A : Vec Ideal S2048x512 .f32) (L : Vec Ideal S2048x128 .f32)
    (y : S128x2048.Idx) (R : Fin 2048) (H : Fin 16) (v : Fin 128) (hR : R.val = 128 * ((y 1).val / 128) + (y 0).val)
    (hH : H.val = (y 1).val / 128) (hv : v.val = (y 1).val % 128) :
    outBlk u A L y = ∑ c : Fin 512, k0_pay24 A L (ix2 R c) * u (ix3 H c v) := by
  unfold outBlk
  canon_tiles x h
  all_goals open_payloads
  all_goals idx_vars x
  all_goals pointwise
  all_goals exact prod_at _ _ _ _ _ _ _ _ (by dsimp only; omega) (by simp only [Fin.isValue, Fin.reduceFinMk, Fin.coe_ofNat_eq_mod]; omega) (by omega)

end Cert.Out

end
-- ==== Proof.Blocks.lean ====
/- The blocks the kernel reads, in the arrays the host hands it. -/
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Blocks

open Idealize.ShloMosaic Idealize.ShloMosaic.TcCoe Cert.KernelIdeal Cert.KernelIdeal.Gen Idealize.SL.Sem

variable (m : (ℓ : Loc nD τ sig) → Buf (Elt Ideal) ℓ) (c : Dev nD)

/-- Which block of each array a grid point reads. -/
theorem idx : ∀ t : Fin cfg0.N, win0_0.index t = ![0, t.val / 4, 0] ∧ win0_2.index t = ![0, 0, 0] ∧ win0_3.index t = ![t.val / 4, 0]
    ∧ (4 * (t.val % 4) ≤ t.val / 4 % 16 → win0_1.index t = ![4 * (t.val / 64) + t.val % 4, 0]) :=
  (by decide +kernel : ∀ t : Fin grid0.N, _)

/-- The grid coordinates of a point: the query block and the key block. -/
theorem coords : ∀ t : Fin cfg0.N, (grid0.coords t 1).val = t.val / 4 % 16 ∧ (grid0.coords t 2).val = t.val % 4 :=
  (by decide +kernel : ∀ t : Fin grid0.N, _)

/-- The queries, head first, latent lanes then rope lanes then zeros. -/
theorem v3_apply (h : Fin 16) (a : Fin 8704) (x : Fin 640) :
    V m c main_v3 (ix3 h a x) = (if h1 : x.val < 512 then m ((c : Thread nD τ).loc main_arg0) (ix3 a h (⟨x.val, h1⟩ : Fin 512))
      else if h2 : x.val < 576 then m ((c : Thread nD τ).loc main_arg1) (ix3 a h (⟨x.val - 512, by omega⟩ : Fin 64)) else (0 : EReal)) := by
  simp only [V, hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise
  have hz : (FloatOps.sitofp .f32 (0#32 : BitVec 32) : Ideal .f32) = (0 : EReal) := by
    show (((0#32 : BitVec 32).toInt : ℝ) : EReal) = 0
    simp
  by_cases h1 : x.val < 512
  · have h2 : x.val < 576 := by omega
    simp only [h1, h2, dif_pos]
  · by_cases h2 : x.val < 576
    · simp only [h1, h2, dif_pos, dif_neg, not_false_eq_true]
    · simp only [h1, h2, dif_neg, not_false_eq_true, hz]

/-- The cached rows as the call takes them: 576 lanes of the argument, then zeros. -/
theorem v5_apply (a : Fin 8704) (x : Fin 640) :
    V m c main_v5 (ix2 a x) = (if h1 : x.val < 576 then m ((c : Thread nD τ).loc main_arg2) (ix2 a (⟨x.val, h1⟩ : Fin 576)) else (0 : EReal)) := by
  simp only [V, hostOps0, hostOps0_1, hostOps0_2, hostOps0_3, hostOps0_4, List.flatten_cons, List.flatten_nil, List.append_nil, List.cons_append, List.nil_append]
  after_results
  simp -implicitDefEqProofs only [StableHlo.TRef.toBuf, StableHlo.TRef.ofBuf, cast_cast, cast_eq]
  pointwise
  have hz : (FloatOps.sitofp .f32 (0#32 : BitVec 32) : Ideal .f32) = (0 : EReal) := by
    show (((0#32 : BitVec 32).toInt : ℝ) : EReal) = 0
    simp
  rw [hz]

/-- The matrices, head first. -/
theorem v7_apply (h : Fin 16) (x : Fin 512) (v : Fin 128) :
    V m c main_v7 (ix3 h x v) = m ((c : Thread nD τ).loc main_arg3) (ix3 x h v) := by
  simp only [V, hostOps0, hostOps0_1, hostOps0_2, hostOps0_3, hostOps0_4, List.flatten_cons, List.flatten_nil, List.append_nil, List.cons_append, List.nil_append]
  after_results
  pointwise

/-- The query block of a grid point, read from the whole query array. -/
theorem read_q (t : Fin cfg0.N) (h : Fin 16) (r : Fin 128) (x : Fin 640) (a : Fin 8704) (ha : a.val = 128 * (t.val / 4) + r.val) :
    iblk m c 0 t (ix3 h r x) = V m c main_v3 (ix3 h a x) := by
  have ht : t.val < 256 := lt_of_lt_of_eq t.isLt N_0
  blk_ext [iblk, idx t]

/-- The key block of a grid point at or before the diagonal, read from the whole array of rows. -/
theorem read_k (t : Fin cfg0.N) (κ : Fin 512) (x : Fin 640) (hj : 4 * (t.val % 4) ≤ t.val / 4 % 16) (a : Fin 8704)
    (ha : a.val = 512 * (4 * (t.val / 64) + t.val % 4) + κ.val) :
    iblk m c 1 t (ix2 κ x) = V m c main_v5 (ix2 a x) := by
  have ht : t.val < 256 := lt_of_lt_of_eq t.isLt N_0
  have hi := (idx t).2.2.2 hj
  blk_ext [iblk, hi]

/-- The value matrices are staged whole at every grid point. -/
theorem read_u (t : Fin cfg0.N) (h : Fin 16) (x : Fin 512) (v : Fin 128) :
    iblk m c 2 t (ix3 h x v) = V m c main_v7 (ix3 h x v) := by
  blk_ext [iblk, idx t]

end Cert.Blocks

end
-- ==== Proof.Fold.lean ====
/- What the kernel carries from point to point, and the block it writes back after a row's last point. -/
module

public import proofs.«01_k».proof.Proof.Run
public import proofs.«01_k».proof.Proof.Out
public import proofs.«01_k».proof.Proof.Blocks

@[expose] public section

set_option maxRecDepth 16384

noncomputable section

namespace Cert.Fold

open Idealize.ShloMosaic Idealize.ShloMosaic.TcCoe Cert.KernelIdeal Cert.KernelIdeal.Gen Idealize.SL.Sem
open Cert.Points Cert.Run Cert.Blocks

/-- The real query of token `a` and head `h`: latent lanes, then rope lanes, then zeros. -/
def qR (x0 : FVec Ideal S8704x16x512 .f32) (x1 : FVec Ideal S8704x16x64 .f32) (a : ℕ) (h : Fin 16) (x : Fin 640) : ℝ :=
  if ha : a < 8704 then
    if h1 : x.val < 512 then (x0 (ix3 (⟨a, ha⟩ : Fin 8704) h (⟨x.val, h1⟩ : Fin 512)) : EReal).toReal
    else if h2 : x.val < 576 then (x1 (ix3 (⟨a, ha⟩ : Fin 8704) h (⟨x.val - 512, by omega⟩ : Fin 64)) : EReal).toReal else 0
  else 0

/-- The real cached row of token `b`, then zeros. -/
def kR (x2 : FVec Ideal S8704x576 .f32) (b : ℕ) (x : Fin 640) : ℝ :=
  if hb : b < 8704 then
    if h1 : x.val < 576 then (x2 (ix2 (⟨b, hb⟩ : Fin 8704) (⟨x.val, h1⟩ : Fin 576)) : EReal).toReal else 0
  else 0

/-- Every entry is a real. -/
def IsReal {s : Shape} (x : FVec Ideal s .f32) : Prop := ∀ i, (x i : EReal) = ((x i : EReal).toReal : EReal)

variable (m : (ℓ : Loc nD τ sig) → Buf (Elt Ideal) ℓ) (c : Dev nD)

/-- The queries of row block `g`, as reals: head `r / 128` of the block's token `r % 128`. -/
def Q (g : ℕ) (r : Fin 2048) (x : Fin 640) : ℝ :=
  qR (m ((c : Thread nD τ).loc main_arg0)) (m ((c : Thread nD τ).loc main_arg1)) (128 * g + r.val % 128) ⟨r.val / 128, by omega⟩ x

/-- The keys of row block `g`'s sequence, as reals. -/
def K (g : ℕ) (κ : ℕ) (x : Fin 640) : ℝ := kR (m ((c : Thread nD τ).loc main_arg2)) (2048 * (g / 16) + κ) x

variable (H0 : IsReal (s := S8704x16x512) (m ((c : Thread nD τ).loc main_arg0))) (H1 : IsReal (s := S8704x16x64) (m ((c : Thread nD τ).loc main_arg1)))
  (H2 : IsReal (s := S8704x576) (m ((c : Thread nD τ).loc main_arg2)))

include H0 H1 H2 in
/-- The blocks a point reads, where the causal mask leaves it work. -/
theorem reads (t : Fin cfg0.N) (hj : 4 * (t.val % 4) ≤ t.val / 4 % 16) :
    Reads (Q m c (t.val / 4)) (K m c (t.val / 4)) (t.val % 4) (iblk m c 0 t) (iblk m c 1 t) := by
  have ht : t.val < 256 := lt_of_lt_of_eq t.isLt N_0
  refine ⟨fun r x => ?_, fun κ x => ?_⟩
  · have ha : 128 * (t.val / 4) + r.val % 128 < 8704 := by omega
    refine (read_q m c t ⟨r.val / 128, by omega⟩ ⟨r.val % 128, by omega⟩ x ⟨128 * (t.val / 4) + r.val % 128, ha⟩ rfl).trans ?_
    rw [v3_apply, Q, qR, dif_pos ha]
    by_cases h1 : x.val < 512
    · rw [dif_pos h1, dif_pos h1]
      exact H0 _
    · rw [dif_neg h1, dif_neg h1]
      by_cases h2 : x.val < 576
      · rw [dif_pos h2, dif_pos h2]
        exact H1 _
      · rw [dif_neg h2, dif_neg h2]
        rfl
  · have hb : 2048 * (t.val / 4 / 16) + (512 * (t.val % 4) + κ.val) < 8704 := by omega
    refine (read_k m c t κ x hj ⟨2048 * (t.val / 4 / 16) + (512 * (t.val % 4) + κ.val), hb⟩ (by show _ + (_ + _) = _; omega)).trans ?_
    rw [v5_apply, K, kR, dif_pos hb]
    by_cases h1 : x.val < 576
    · rw [dif_pos h1, dif_pos h1]
      exact H2 _
    · rw [dif_neg h1, dif_neg h1]
      rfl

/-- What the point before left in the scratch. -/
abbrev prev (t : Fin cfg0.N) : Carried := (outsAt0 m c (t.val - 1) (Nat.lt_of_le_of_lt (Nat.sub_le _ _) t.isLt)).2

/-- The masked step of a row block's first point. -/
theorem at_A (t : Fin cfg0.N) (h0 : t.val % 4 = 0) (h1 : ¬4 * (t.val % 4) + 4 ≤ t.val / 4 % 16)
    (h2 : 4 * (t.val % 4) ≤ t.val / 4 % 16 ∧ t.val / 4 % 16 ≤ 4 * (t.val % 4) + 3) (h3 : ¬t.val % 4 = 3) :
    (outsAt0 m c t.val t.isLt).2 = stepM (BitVec.ofNat 32 (t.val / 4 % 16)) (BitVec.ofNat 32 (t.val % 4)) (iblk m c 0 t) (iblk m c 1 t) init := by
  have e : (outsAt0 m c t.val t.isLt).2 = stepM (BitVec.ofNat 32 (grid0.coords t 1).val) (BitVec.ofNat 32 (grid0.coords t 2).val) (iblk m c 0 t) (iblk m c 1 t) init := by
    rw [outsAt0_A m c t h0 h1 h2 h3]
    dsimp only
    rw [sA0, sA1, sA2]
  rw [(coords t).1, (coords t).2] at e
  exact e

/-- The plain step of a row block's first point. -/
theorem at_D (t : Fin cfg0.N) (h0 : t.val % 4 = 0) (h1 : 4 * (t.val % 4) + 4 ≤ t.val / 4 % 16)
    (h2 : ¬(4 * (t.val % 4) ≤ t.val / 4 % 16 ∧ t.val / 4 % 16 ≤ 4 * (t.val % 4) + 3)) (h3 : ¬t.val % 4 = 3) :
    (outsAt0 m c t.val t.isLt).2 = stepU (iblk m c 0 t) (iblk m c 1 t) init := by
  rw [outsAt0_D m c t h0 h1 h2 h3]
  dsimp only
  rw [sD0, sD1, sD2]

/-- The masked step of a later point. -/
theorem at_EG (t : Fin cfg0.N) (h0 : ¬t.val % 4 = 0) (h1 : ¬4 * (t.val % 4) + 4 ≤ t.val / 4 % 16)
    (h2 : 4 * (t.val % 4) ≤ t.val / 4 % 16 ∧ t.val / 4 % 16 ≤ 4 * (t.val % 4) + 3) :
    (outsAt0 m c t.val t.isLt).2 = stepM (BitVec.ofNat 32 (t.val / 4 % 16)) (BitVec.ofNat 32 (t.val % 4)) (iblk m c 0 t) (iblk m c 1 t) (prev m c t) := by
  have e : (outsAt0 m c t.val t.isLt).2 = stepM (BitVec.ofNat 32 (grid0.coords t 1).val) (BitVec.ofNat 32 (grid0.coords t 2).val) (iblk m c 0 t) (iblk m c 1 t) (prev m c t) := by
    by_cases h3 : t.val % 4 = 3
    · rw [outsAt0_G m c t h0 h1 h2 h3]
      dsimp only
      rw [sG0, sG1, sG2]
    · rw [outsAt0_E m c t h0 h1 h2 h3]
      dsimp only
      rw [sE0, sE1, sE2]
  rw [(coords t).1, (coords t).2] at e
  exact e

/-- The plain step of a later point. -/
theorem at_F (t : Fin cfg0.N) (h0 : ¬t.val % 4 = 0) (h1 : 4 * (t.val % 4) + 4 ≤ t.val / 4 % 16)
    (h2 : ¬(4 * (t.val % 4) ≤ t.val / 4 % 16 ∧ t.val / 4 % 16 ≤ 4 * (t.val % 4) + 3)) (h3 : ¬t.val % 4 = 3) :
    (outsAt0 m c t.val t.isLt).2 = stepU (iblk m c 0 t) (iblk m c 1 t) (prev m c t) := by
  rw [outsAt0_F m c t h0 h1 h2 h3]
  dsimp only
  rw [sF0, sF1, sF2]

/-- A point past the diagonal leaves the scratch alone. -/
theorem at_BC (t : Fin cfg0.N) (h0 : ¬t.val % 4 = 0) (h1 : ¬4 * (t.val % 4) + 4 ≤ t.val / 4 % 16)
    (h2 : ¬(4 * (t.val % 4) ≤ t.val / 4 % 16 ∧ t.val / 4 % 16 ≤ 4 * (t.val % 4) + 3)) :
    (outsAt0 m c t.val t.isLt).2 = prev m c t := by
  by_cases h3 : t.val % 4 = 3
  · rw [outsAt0_C m c t h0 h1 h2 h3]
    rfl
  · rw [outsAt0_B m c t h0 h1 h2 h3]
    rfl

include H0 H1 H2 in
/-- One point: what the scratch stood for, and one block of keys more. -/
theorem holds_point (t : Fin cfg0.N)
    (hp : ¬t.val % 4 = 0 → Holds (t.val / 4 % 16) (Q m c (t.val / 4)) (K m c (t.val / 4)) (t.val % 4) (prev m c t)) :
    Holds (t.val / 4 % 16) (Q m c (t.val / 4)) (K m c (t.val / 4)) (t.val % 4 + 1) (outsAt0 m c t.val t.isLt).2 := by
  by_cases h0 : t.val % 4 = 0
  · have hi : Holds (t.val / 4 % 16) (Q m c (t.val / 4)) (K m c (t.val / 4)) (t.val % 4) init := by rw [h0]; exact holds_init
    by_cases h1 : 4 * (t.val % 4) + 4 ≤ t.val / 4 % 16
    · rw [at_D m c t h0 h1 (by omega) (by omega)]
      exact holds_stepU (reads m c H0 H1 H2 t (by omega)) hi h1
    · rw [at_A m c t h0 h1 (by omega) (by omega)]
      exact holds_stepM (reads m c H0 H1 H2 t (by omega)) hi (by omega) (by omega)
  · by_cases h1 : 4 * (t.val % 4) + 4 ≤ t.val / 4 % 16
    · rw [at_F m c t h0 h1 (by omega) (by omega)]
      exact holds_stepU (reads m c H0 H1 H2 t (by omega)) (hp h0) h1
    · by_cases h2 : 4 * (t.val % 4) ≤ t.val / 4 % 16 ∧ t.val / 4 % 16 ≤ 4 * (t.val % 4) + 3
      · rw [at_EG m c t h0 h1 h2]
        exact holds_stepM (reads m c H0 H1 H2 t h2.1) (hp h0) (by omega) (by omega)
      · rw [at_BC m c t h0 h1 h2]
        exact holds_skip (hp h0) (by omega)

include H0 H1 H2 in
/-- Every point: the scratch stands for the row block's keys so far. -/
theorem holds (n : ℕ) : ∀ hn : n < cfg0.N, Holds (n / 4 % 16) (Q m c (n / 4)) (K m c (n / 4)) (n % 4 + 1) (outsAt0 m c n hn).2 := by
  induction n with
  | zero => exact fun hn => holds_point m c H0 H1 H2 ⟨0, hn⟩ fun h => absurd rfl h
  | succ n ih =>
    intro hn
    refine holds_point m c H0 H1 H2 ⟨n + 1, hn⟩ fun h => ?_
    have e := ih (Nat.lt_of_succ_lt hn)
    have h' : ¬(n + 1) % 4 = 0 := h
    have e1 : n / 4 = (n + 1) / 4 := by omega
    have e2 : n % 4 + 1 = (n + 1) % 4 := by omega
    rw [e1, e2] at e
    exact e

include H0 H1 H2 in
/-- The block written back after a row block's last point: the scratch stands for all four blocks of keys. -/
theorem out_point (t : Fin cfg0.N) (h3 : t.val % 4 = 3) :
    ∃ S : Carried, Holds (t.val / 4 % 16) (Q m c (t.val / 4)) (K m c (t.val / 4)) 4 S ∧
      (outsAt0 m c t.val t.isLt).1 = outBlk (iblk m c 2 t) S.2.2 S.2.1 := by
  have h0 : ¬t.val % 4 = 0 := by omega
  have h1 : ¬4 * (t.val % 4) + 4 ≤ t.val / 4 % 16 := by omega
  have hH := holds m c H0 H1 H2 t.val t.isLt
  refine ⟨(outsAt0 m c t.val t.isLt).2, by rw [h3] at hH; exact hH, ?_⟩
  by_cases h2 : 4 * (t.val % 4) ≤ t.val / 4 % 16 ∧ t.val / 4 % 16 ≤ 4 * (t.val % 4) + 3
  · have e : (outsAt0 m c t.val t.isLt).1 = outBlk (iblk m c 2 t)
        (stepM (BitVec.ofNat 32 (grid0.coords t 1).val) (BitVec.ofNat 32 (grid0.coords t 2).val) (iblk m c 0 t) (iblk m c 1 t) (prev m c t)).2.2
        (stepM (BitVec.ofNat 32 (grid0.coords t 1).val) (BitVec.ofNat 32 (grid0.coords t 2).val) (iblk m c 0 t) (iblk m c 1 t) (prev m c t)).2.1 := by
      rw [outsAt0_G m c t h0 h1 h2 h3]
      dsimp only
      rw [oG]
    rw [(coords t).1, (coords t).2] at e
    rw [at_EG m c t h0 h1 h2]
    exact e
  · rw [at_BC m c t h0 h1 h2, outsAt0_C m c t h0 h1 h2 h3]
    dsimp only
    rw [oC]

include H0 H1 H2 in
/-- The same block at an index: each head's softmax-weighted latent row, by the head's matrix. -/
theorem out_apply (t : Fin cfg0.N) (h3 : t.val % 4 = 3) (y : S128x2048.Idx) (R : Fin 2048) (H : Fin 16) (v : Fin 128)
    (hR : R.val = 128 * ((y 1).val / 128) + (y 0).val) (hH : H.val = (y 1).val / 128) (hv : v.val = (y 1).val % 128) :
    ((outsAt0 m c t.val t.isLt).1 y : EReal) = ∑ x : Fin 512,
      ((sumA (t.val / 4 % 16) (Q m c (t.val / 4)) (K m c (t.val / 4)) 4 R x / sumW (t.val / 4 % 16) (Q m c (t.val / 4)) (K m c (t.val / 4)) 4 R : ℝ) : EReal)
        * m ((c : Thread nD τ).loc main_arg3) (ix3 x H v) := by
  obtain ⟨S, hS, e⟩ := out_point m c H0 H1 H2 t h3
  rw [e, Cert.Out.outBlk_apply _ _ _ y R H v hR hH hv]
  refine Finset.sum_congr rfl fun x _ => ?_
  rw [holds_div (by omega) hS, read_u, v7_apply]

end Cert.Fold

end
-- ==== Proof.Ref.lean ====
/- The reference, read at an index. -/
module

public import Idealize.ShloMosaic.Lib.Routing.BitFacts
public import proofs.«01_k».proof.Proof.Gen.ReferenceIdeal.Run
public import proofs.«01_k».proof.Proof.Soft
public import Idealize.ShloMosaic.Lib.Pointwise
public import Idealize.ShloMosaic.Lib.Claim

@[expose] public section

set_option maxRecDepth 16384

noncomputable section

namespace Cert.Ref

open Idealize.ShloMosaic Idealize.ShloMosaic.TcCoe Cert.ReferenceIdeal Cert.ReferenceIdeal.Gen Cert.ReferenceIdeal.Value Idealize.SL.Sem

variable (x0 : FVec Ideal S8704x16x512 .f32) (x1 : FVec Ideal S8704x16x64 .f32) (x2 : FVec Ideal S8704x576 .f32) (x3 : FVec Ideal S512x16x128 .f32)
  (s : FVec Ideal S4x16x2048x2048 .f32)

/-- The latent rows of the four sequences. -/
def ckv : FVec Ideal S4x2048x512 .f32 :=
  extractStridedSlice S4x2048x512 ![0, 0, 0] (shapeCast S4x2048x576 (extractStridedSlice S8192x576 ![0, 0] x2 slices_S8704x576_S8192x576_0_0) shapeCasts_S8192x576_S4x2048x576) slices_S4x2048x576_S4x2048x512_0_0_0

/-- The masked scores. -/
def score : FVec Ideal S4x16x2048x2048 .f32 :=
  select (broadcastInDim S4x16x2048x2048 ![0, 1, 2, 3] bcast_S1x1x2048x2048_S4x16x2048x2048_0_1_2_3 (cmpi .sle (broadcastInDim S1x1x2048x2048 ![0, 1, 2, 3] bcast_S1x1x1x2048_S1x1x2048x2048_0_1_2_3 (broadcastInDim S1x1x1x2048 ![3] bcast_S2048_S1x1x1x2048_3 (iotaInDim S2048 32 0))) (broadcastInDim S1x1x2048x2048 ![0, 1, 2, 3] bcast_S1x1x2048x1_S1x1x2048x2048_0_1_2_3 (broadcastInDim S1x1x2048x1 ![2] bcast_S2048_S1x1x2048x1_2 (iotaInDim S2048 32 0))))) (Host.divf (addf (transpose S4x16x2048x2048 [0, 3, 2, 1] (Host.dotGeneral dot_S4x2048x512_S4x2048x16x512_S4x2048x2048x16_2_3_1_12_0_0 none (ckv x2) (shapeCast S4x2048x16x512 (extractStridedSlice S8192x16x512 ![0, 0, 0] x0 slices_S8704x16x512_S8192x16x512_0_0_0) shapeCasts_S8192x16x512_S4x2048x16x512)) transposes_S4x2048x2048x16_S4x16x2048x2048_0_3_2_1) (transpose S4x16x2048x2048 [0, 3, 2, 1] (Host.dotGeneral dot_S4x2048x64_S4x2048x16x64_S4x2048x2048x16_2_3_1_12_0_0 none (extractStridedSlice S4x2048x64 ![0, 0, 512] (shapeCast S4x2048x576 (extractStridedSlice S8192x576 ![0, 0] x2 slices_S8704x576_S8192x576_0_0) shapeCasts_S8192x576_S4x2048x576) slices_S4x2048x576_S4x2048x64_0_0_512) (shapeCast S4x2048x16x64 (extractStridedSlice S8192x16x64 ![0, 0, 0] x1 slices_S8704x16x64_S8192x16x64_0_0_0) shapeCasts_S8192x16x64_S4x2048x16x64)) transposes_S4x2048x2048x16_S4x16x2048x2048_0_3_2_1)) (broadcastInDim S4x16x2048x2048 ![] bcast_S_S4x16x2048x2048 (Host.sqrt (constant S_ .f32 0x43400000#32)))) (broadcastInDim S4x16x2048x2048 ![] bcast_S_S4x16x2048x2048 (id (constant S_ .f32 0xFF800000#32)))

/-- Every row's maximum. -/
def top : FVec Ideal S4x16x2048 .f32 :=
  Host.reduce FloatOps.maximumf s (constant S_ .f32 0xFF800000#32) reducesTo_S4x16x2048x2048_S4x16x2048_d3 h_S_

/-- The exponentials under the row's maximum. -/
def expo : FVec Ideal S4x16x2048x2048 .f32 :=
  Host.exp (subf s (broadcastInDim S4x16x2048x2048 ![0, 1, 2, 3] bcast_S4x16x2048x1_S4x16x2048x2048_0_1_2_3 (broadcastInDim S4x16x2048x1 ![0, 1, 2] bcast_S4x16x2048_S4x16x2048x1_0_1_2 (maximumf (broadcastInDim S4x16x2048 ![] bcast_S_S4x16x2048 (constant S_ .f32 0xFF800000#32)) (top s)))))

/-- The softmax along the keys. -/
def prob : FVec Ideal S4x16x2048x2048 .f32 :=
  Host.divf (expo s) (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd (expo s) (constant S_ .f32 0x00000000#32) reducesTo_S4x16x2048x2048_S4x16x2048_d3 h_S_)))

/-- The value up-projection of the weighted latent rows. -/
def result (p : FVec Ideal S4x16x2048x2048 .f32) : FVec Ideal S8192x2048 .bf16 :=
  truncf .bf16 (shapeCast S8192x2048 (transpose S4x2048x16x128 [2, 3, 0, 1] (Host.dotGeneral dot_S512x16x128_S4x2048x16x512_S16x128x4x2048_0_3_2_01_1_2 none x3 (transpose S4x2048x16x512 [0, 3, 2, 1] (Host.dotGeneral dot_S4x2048x512_S4x16x2048x2048_S4x512x16x2048_1_3_2_12_0_0 none (ckv x2) p) transposes_S4x512x16x2048_S4x2048x16x512_0_3_2_1)) transposes_S16x128x4x2048_S4x2048x16x128_2_3_0_1) shapeCasts_S4x2048x16x128_S8192x2048) bitsLt_bf16_f32

/-- The reference is these steps. -/
theorem res_eq (m : (ℓ : Loc nD τ sig) → Buf (Elt Ideal) ℓ) (c : Dev nD) : res_main_v39 m c
    = result (m ((c.tc : Thread nD τ).loc main_arg2)) (m ((c.tc : Thread nD τ).loc main_arg3)) (prob (score (m ((c.tc : Thread nD τ).loc main_arg0)) (m ((c.tc : Thread nD τ).loc main_arg1)) (m ((c.tc : Thread nD τ).loc main_arg2)))) := rfl

/-- The latent part of a cached row, read from the argument. -/
theorem ckv_apply (n : Fin 4) (κ : Fin 2048) (x : Fin 512) : ckv x2 (ix3 n κ x) = x2 (ix2 (⟨n.val * 2048 + κ.val, by omega⟩ : Fin 8704) (⟨x.val, by omega⟩ : Fin 576)) := by
  pointwise [ckv]

/-- The pattern of negative infinity. -/
theorem ofBits_bot : (Ideal.ofBits .f32 (4286578688#32) : EReal) = ⊥ := by
  simp [Ideal.ofBits, Ideal.ieee]

/-- The pattern of 192. -/
theorem ofBits_192 : (Ideal.ofBits .f32 (1128267776#32) : EReal) = ((192 : ℝ) : EReal) := by
  simp [Ideal.ofBits, Ideal.ieee, -EReal.coe_mul]
  norm_num

/-- A maximum along the last of four axes. -/
theorem max_last {n0 n1 n2 n3 : ℕ} {u : Shape} (v : FVec Ideal ⟨4, ![n0, n1, n2, n3]⟩ .f32) (z : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal)) v z h hu (ix3 a b c)
      = (Finset.univ.fold max (z (Shape.Idx.first hu) : EReal) fun k : Fin n3 => (v (ix4 a b c k) : EReal)) := by
  rw [Host.reduce_eq_fold]
  exact h.fold_fiber_r4_a3 (ix3 a b c) _ _ v

/-- The maximum of a row of scores, as a fold over the keys. -/
theorem top_apply (n : Fin 4) (h : Fin 16) (q : Fin 2048) : top s (ix3 n h q) = Finset.univ.fold max (⊥ : EReal) fun κ : Fin 2048 => (s (ix4 n h q κ) : EReal) := by
  refine (max_last s _ _ _ n h q).trans ?_
  rw [← ofBits_bot]
  rfl

/-- The masked and scaled score of a query and a key. -/
theorem score_apply (n : Fin 4) (h : Fin 16) (q k : Fin 2048) : score x0 x1 x2 (ix4 n h q k) =
    if k.val ≤ q.val then Ideal.div ((∑ x : Fin 512, x2 (ix2 (⟨n.val * 2048 + k.val, by omega⟩ : Fin 8704) (⟨x.val, by omega⟩ : Fin 576)) * x0 (ix3 (⟨n.val * 2048 + q.val, by omega⟩ : Fin 8704) h x))
        + ∑ x : Fin 64, x2 (ix2 (⟨n.val * 2048 + k.val, by omega⟩ : Fin 8704) (⟨512 + x.val, by omega⟩ : Fin 576)) * x1 (ix3 (⟨n.val * 2048 + q.val, by omega⟩ : Fin 8704) h x))
      ((Real.sqrt 192 : ℝ) : EReal) else ⊥ := by
  pointwise [score, ckv]
  rw [ofBits_192, Ideal.sqrt_coe, if_neg (by norm_num)]
  have hb : ((id (constant (F := Ideal) S_ FTy.f32 4286578688#32)) ix0 : EReal) = ⊥ := ofBits_bot
  rw [hb]
  have hc : IntOp.cmpi CmpIPredicate.sle (BitVec.ofNat 32 k.val) (BitVec.ofNat 32 q.val) = BitVec.ofBool (decide (k.val ≤ q.val)) := by
    exact congrArg BitVec.ofBool (Idealize.ShloMosaic.Routing.sle_ofNat32 (by omega) (by omega))
  rw [hc]
  by_cases hk : k.val ≤ q.val
  · rw [if_pos hk, decide_eq_true hk]; rfl
  · rw [if_neg hk, decide_eq_false hk]; rfl

/-- The host's exponential, at an index. -/
theorem exp_at (v : FVec Ideal S4x16x2048x2048 .f32) (n : Fin 4) (h : Fin 16) (q k : Fin 2048) : Host.exp v (ix4 n h q k) = Ideal.exp (v (ix4 n h q k)) := by
  pointwise

/-- A score under its row's maximum. -/
theorem sub_at (M : FVec Ideal S4x16x2048 .f32) (n : Fin 4) (h : Fin 16) (q k : Fin 2048) :
    (subf s (broadcastInDim S4x16x2048x2048 ![0, 1, 2, 3] bcast_S4x16x2048x1_S4x16x2048x2048_0_1_2_3 (broadcastInDim S4x16x2048x1 ![0, 1, 2] bcast_S4x16x2048_S4x16x2048x1_0_1_2 M))) (ix4 n h q k)
      = (s (ix4 n h q k) - M (ix3 n h q) : EReal) := by
  pointwise

/-- A row's maximum, no less than negative infinity. -/
theorem max_at (M : FVec Ideal S4x16x2048 .f32) (n : Fin 4) (h : Fin 16) (q : Fin 2048) :
    (maximumf (broadcastInDim S4x16x2048 ![] bcast_S_S4x16x2048 (constant S_ .f32 0xFF800000#32)) M) (ix3 n h q)
      = (max (Ideal.ofBits .f32 (4286578688#32)) (M (ix3 n h q)) : EReal) := by
  pointwise

/-- An exponential, at an index. -/
theorem expo_apply (n : Fin 4) (h : Fin 16) (q k : Fin 2048) :
    expo s (ix4 n h q k) = Ideal.exp (s (ix4 n h q k) - max ⊥ (top s (ix3 n h q) : EReal)) := by
  rw [expo, exp_at, sub_at, max_at, ofBits_bot]

/-- A softmax weight is its exponential over the sum of the row's exponentials. -/
theorem prob_apply (n : Fin 4) (h : Fin 16) (q k : Fin 2048) : prob s (ix4 n h q k) = Ideal.div (expo s (ix4 n h q k)) (∑ κ : Fin 2048, expo s (ix4 n h q κ)) := by
  pointwise [prob]

/-- An entry of the result: the weights times the latent rows, then times the value matrix of the head. -/
theorem result_apply (p : FVec Ideal S4x16x2048x2048 .f32) (R : Fin 8192) (y : Fin 2048) : result x2 x3 p (ix2 R y) =
    ∑ x : Fin 512, x3 (ix3 x (⟨y.val / 128, by omega⟩ : Fin 16) (⟨y.val % 128, by omega⟩ : Fin 128))
      * ∑ κ : Fin 2048, ckv x2 (ix3 (⟨R.val / 2048, by omega⟩ : Fin 4) κ x) * p (ix4 (⟨R.val / 2048, by omega⟩ : Fin 4) (⟨y.val / 128, by omega⟩ : Fin 16) (⟨R.val % 2048, by omega⟩ : Fin 2048) κ) := by
  pointwise [result]

end Cert.Ref

end
-- ==== Proof.Equal.lean ====
/- The kernel's array and the reference's are one. -/
module

public import proofs.«01_k».proof.Proof.Fold
public import proofs.«01_k».proof.Proof.Ref

@[expose] public section

set_option maxRecDepth 16384

noncomputable section

namespace Cert.Equal

open Idealize.ShloMosaic Idealize.ShloMosaic.TcCoe Idealize.SL.Sem Cert.Soft Cert.Run Cert.Fold Cert.Ref
open Cert.KernelIdeal (S8704x16x512 S8704x16x64 S8704x576 S512x16x128)

/-- A sum over blocks of 512 is one sum. -/
theorem sum_blocks (f : ℕ → ℝ) (J : ℕ) : ∑ b ∈ Finset.range J, ∑ κ : Fin 512, f (512 * b + κ.val) = ∑ i ∈ Finset.range (512 * J), f i := by
  induction J with
  | zero => rfl
  | succ J ih =>
    rw [Finset.sum_range_succ, ih, Nat.mul_succ, Finset.sum_range_add, Fin.sum_univ_eq_sum_range (fun i => f (512 * J + i)) 512]

/-- The 640 lanes are the latent lanes, the rope lanes and zeros. -/
theorem sum_lanes (f : Fin 640 → ℝ) (hf : ∀ x : Fin 640, 576 ≤ x.val → f x = 0) :
    ∑ x, f x = (∑ x : Fin 512, f ⟨x.val, by omega⟩) + ∑ x : Fin 64, f ⟨512 + x.val, by omega⟩ := by
  have e1 : ∑ x, f x = (∑ x : Fin 512, f ⟨x.val, by omega⟩) + ∑ x : Fin 128, f ⟨512 + x.val, by omega⟩ :=
    Fin.sum_univ_add (a := 512) (b := 128) (M := ℝ) f
  have e2 : (∑ x : Fin 128, f ⟨512 + x.val, by omega⟩) = (∑ x : Fin 64, f ⟨512 + x.val, by omega⟩) + ∑ x : Fin 64, f ⟨512 + (64 + x.val), by omega⟩ :=
    Fin.sum_univ_add (a := 64) (b := 64) (M := ℝ) fun x : Fin 128 => f ⟨512 + x.val, by omega⟩
  have e3 : (∑ x : Fin 64, f ⟨512 + (64 + x.val), by omega⟩) = 0 := Finset.sum_eq_zero fun x _ => hf _ (by show 576 ≤ 512 + (64 + x.val); omega)
  rw [e1, e2, e3, add_zero]

variable (x0 : FVec Ideal S8704x16x512 .f32) (x1 : FVec Ideal S8704x16x64 .f32) (x2 : FVec Ideal S8704x576 .f32) (x3 : FVec Ideal S512x16x128 .f32)
  (H0 : IsReal x0) (H1 : IsReal x1) (H2 : IsReal x2)

/-- The queries of row block `g`. -/
def Qx (g : ℕ) (r : Fin 2048) (x : Fin 640) : ℝ := qR x0 x1 (128 * g + r.val % 128) ⟨r.val / 128, by omega⟩ x

/-- The keys of row block `g`'s sequence. -/
def Kx (g : ℕ) (κ : ℕ) (x : Fin 640) : ℝ := kR x2 (2048 * (g / 16) + κ) x

include H0 H1 H2 in
/-- A score of the reference stands for the weight the kernel gives that key. -/
theorem rep_score (R : Fin 8192) (h : Fin 16) (r : Fin 2048) (hr : r.val = 128 * h.val + R.val % 128) (κ : Fin 2048) :
    RepE (score x0 x1 x2 (ix4 (⟨R.val / 2048, by omega⟩ : Fin 4) h (⟨R.val % 2048, by omega⟩ : Fin 2048) κ))
      (wt (R.val / 128 % 16) (Qx x0 x1 (R.val / 128)) (Kx x2 (R.val / 128)) r κ.val) := by
  rw [score_apply, wt]
  have hc : κ.val ≤ R.val % 2048 ↔ κ.val ≤ 128 * (R.val / 128 % 16) + r.val % 128 := by omega
  by_cases hk : κ.val ≤ R.val % 2048
  · rw [if_pos hk, if_pos (hc.mp hk)]
    refine .inr ⟨_, ?_, rfl⟩
    have hs : Real.sqrt 192 ≠ 0 := (Real.sqrt_pos.mpr (by norm_num)).ne'
    rw [Ideal.div_coe hs, EReal.coe_mul, one_div]
    refine congrArg (· * _) ?_
    rw [sum_lanes _ fun x hx => by
      have h1 : ¬x.val < 576 := by omega
      have h2 : ¬x.val < 512 := by omega
      rw [Qx, qR]
      split_ifs <;> simp, EReal.coe_add, coe_sum, coe_sum]
    have hR : 128 * (R.val / 128) + r.val % 128 = R.val / 2048 * 2048 + R.val % 2048 := by omega
    have hK : 2048 * (R.val / 128 / 16) + κ.val = R.val / 2048 * 2048 + κ.val := by omega
    have hh : (⟨r.val / 128, by omega⟩ : Fin 16) = h := Fin.ext (by show r.val / 128 = h.val; omega)
    refine congrArg₂ (· + ·) (Finset.sum_congr rfl fun x _ => ?_) (Finset.sum_congr rfl fun x _ => ?_)
    · rw [H2, H0, mul_comm, EReal.coe_mul, Qx, Kx, qR, kR, dif_pos (by omega), dif_pos (by show x.val < 512; omega), dif_pos (by omega), dif_pos (by show x.val < 576; omega)]
      simp only [hR, hK, hh]
    · rw [H2, H1, mul_comm, EReal.coe_mul, Qx, Kx, qR, kR, dif_pos (by omega), dif_neg (by show ¬512 + x.val < 512; omega), dif_pos (by show 512 + x.val < 576; omega), dif_pos (by omega), dif_pos (by show 512 + x.val < 576; omega)]
      simp only [hR, hK, hh, Nat.add_sub_cancel_left]
  · rw [if_neg hk, if_neg fun h => hk (hc.mpr h)]
    exact .inl ⟨rfl, rfl⟩

include H0 H1 H2 in
/-- A softmax weight of the reference is the kernel's weight over the row's sum. -/
theorem prob_real (R : Fin 8192) (h : Fin 16) (r : Fin 2048) (hr : r.val = 128 * h.val + R.val % 128) (κ : Fin 2048) :
    (prob (score x0 x1 x2) (ix4 (⟨R.val / 2048, by omega⟩ : Fin 4) h (⟨R.val % 2048, by omega⟩ : Fin 2048) κ) : EReal)
      = ((wt (R.val / 128 % 16) (Qx x0 x1 (R.val / 128)) (Kx x2 (R.val / 128)) r κ.val
        / sumW (R.val / 128 % 16) (Qx x0 x1 (R.val / 128)) (Kx x2 (R.val / 128)) 4 r : ℝ) : EReal) := by
  have hW : sumW (R.val / 128 % 16) (Qx x0 x1 (R.val / 128)) (Kx x2 (R.val / 128)) 4 r
      = ∑ κ : Fin 2048, wt (R.val / 128 % 16) (Qx x0 x1 (R.val / 128)) (Kx x2 (R.val / 128)) r κ.val := by
    rw [sumW, sum_blocks, Fin.sum_univ_eq_sum_range (fun i => wt (R.val / 128 % 16) (Qx x0 x1 (R.val / 128)) (Kx x2 (R.val / 128)) r i) 2048]
  rw [prob_apply, hW]
  simp only [expo_apply, top_apply]
  have hs := rep_score x0 x1 x2 H0 H1 H2 R h r hr
  refine softmax_apply (fun κ : Fin 2048 => (score x0 x1 x2 (ix4 (⟨R.val / 2048, by omega⟩ : Fin 4) h (⟨R.val % 2048, by omega⟩ : Fin 2048) κ) : EReal)) _ hs ⟨0, fun e => ?_⟩ κ
  rcases hs 0 with ⟨-, hw⟩ | ⟨x, hx, -⟩
  · rw [wt, if_pos (by show 0 ≤ _; omega)] at hw
    exact absurd hw (Real.exp_pos _).ne'
  · exact absurd (hx.symm.trans e) (EReal.coe_ne_bot x)

include H0 H1 H2 in
/-- The reference at an index: each head's softmax-weighted latent row, by the head's matrix. -/
theorem ref_apply (R : Fin 8192) (y : Fin 2048) (r : Fin 2048) (hr : r.val = 128 * (y.val / 128) + R.val % 128) :
    (result x2 x3 (prob (score x0 x1 x2)) (ix2 R y) : EReal) = ∑ x : Fin 512,
      ((sumA (R.val / 128 % 16) (Qx x0 x1 (R.val / 128)) (Kx x2 (R.val / 128)) 4 r x / sumW (R.val / 128 % 16) (Qx x0 x1 (R.val / 128)) (Kx x2 (R.val / 128)) 4 r : ℝ) : EReal)
        * x3 (ix3 x (⟨y.val / 128, by omega⟩ : Fin 16) (⟨y.val % 128, by omega⟩ : Fin 128)) := by
  rw [result_apply]
  refine Finset.sum_congr rfl fun x _ => ?_
  rw [mul_comm]
  refine congrArg (· * _) ?_
  have hA : sumA (R.val / 128 % 16) (Qx x0 x1 (R.val / 128)) (Kx x2 (R.val / 128)) 4 r x
      = ∑ κ : Fin 2048, wt (R.val / 128 % 16) (Qx x0 x1 (R.val / 128)) (Kx x2 (R.val / 128)) r κ.val * Kx x2 (R.val / 128) κ.val ⟨x.val, by omega⟩ := by
    rw [sumA, sum_blocks (fun i => wt (R.val / 128 % 16) (Qx x0 x1 (R.val / 128)) (Kx x2 (R.val / 128)) r i * Kx x2 (R.val / 128) i ⟨x.val, by omega⟩),
      Fin.sum_univ_eq_sum_range (fun i => wt (R.val / 128 % 16) (Qx x0 x1 (R.val / 128)) (Kx x2 (R.val / 128)) r i * Kx x2 (R.val / 128) i ⟨x.val, by omega⟩) 2048]
  rw [hA, Finset.sum_div, coe_sum]
  refine Finset.sum_congr rfl fun κ _ => ?_
  rw [prob_real x0 x1 x2 H0 H1 H2 R _ r hr κ, ckv_apply, mul_comm, mul_div_right_comm, EReal.coe_mul]
  refine congrArg (_ * ·) ?_
  have hK : 2048 * (R.val / 128 / 16) + κ.val = R.val / 2048 * 2048 + κ.val := by omega
  rw [H2, Kx, kR, dif_pos (by omega), dif_pos (by show x.val < 576; omega)]
  simp only [hK]

open Cert.KernelIdeal Cert.KernelIdeal.Gen Cert.Blocks in
/-- The array the kernel leaves is the reference's. -/
theorem array_eq (m : (ℓ : Loc nD τ sig) → Buf (Elt Ideal) ℓ) (c : Dev nD)
    (H0 : IsReal (s := S8704x16x512) (m ((c : Thread nD τ).loc main_arg0))) (H1 : IsReal (s := S8704x16x64) (m ((c : Thread nD τ).loc main_arg1)))
    (H2 : IsReal (s := S8704x576) (m ((c : Thread nD τ).loc main_arg2))) :
    (dats m 0 c).arrAt 3 cfg0.N = result (m ((c : Thread nD τ).loc main_arg2)) (m ((c : Thread nD τ).loc main_arg3))
      (prob (score (m ((c : Thread nD τ).loc main_arg0)) (m ((c : Thread nD τ).loc main_arg1)) (m ((c : Thread nD τ).loc main_arg2)))) := by
  refine (dats m 0 c).arrAt_eq_of_covers 3 _ (by decide +kernel) fun t hf y => ?_
  have ht : t.val < 256 := lt_of_lt_of_eq t.isLt N_0
  have h3 := (flush0_3 t).mp hf
  blk_simp
  rw [after0_3]
  have y0 : (y 0).val < 128 := (y 0).isLt
  have y1 : (y 1).val < 2048 := (y 1).isLt
  have he : (win0_3.blk t).view.emb y = ix2 (⟨128 * (t.val / 4) + (y 0).val, by omega⟩ : Fin 8192) (⟨(y 1).val, y1⟩ : Fin 2048) := by
    blk_ext [idx t]
  have hd : (128 * (t.val / 4) + (y 0).val) / 128 = t.val / 4 := by omega
  rw [he]
  refine (out_apply m c H0 H1 H2 t h3 y ⟨128 * ((y 1).val / 128) + (y 0).val, by omega⟩ ⟨(y 1).val / 128, by omega⟩ ⟨(y 1).val % 128, by omega⟩ rfl rfl rfl).trans ?_
  refine ((ref_apply _ _ _ _ H0 H1 H2 ⟨128 * (t.val / 4) + (y 0).val, by omega⟩ ⟨(y 1).val, y1⟩ ⟨128 * ((y 1).val / 128) + (y 0).val, by omega⟩ (by dsimp only; omega)).trans ?_).symm
  dsimp only
  rw [hd]
  rfl

end Cert.Equal

end
-- ==== Proof.NormEq.lean ====
/- The norm's call: the array it writes is the rows over the root of their mean square, times the weight. -/
module

public import proofs.«01_k».proof.Defs
public import proofs.«01_k».proof.Proof.Gen.NormIdeal.Value
public import proofs.«01_k».proof.Proof.Gen.NormReferenceIdeal.Run
public import Idealize.ShloMosaic.Lib.Pipeline.ValueKit

@[expose] public section

set_option maxRecDepth 16384

noncomputable section

namespace Cert.NormEq

open Idealize.ShloMosaic Idealize.ShloMosaic.TcCoe Idealize.SL.Sem
open Idealize.ShloMosaic.Pipeline (Dat)
open Cert.NormIdeal Cert.NormIdeal.Gen

variable (m : (ℓ : Loc nD τ sig) → Buf (Elt Ideal) ℓ)

/-- The reference's norm: the rows of `x` over the root of their mean square, times the weight `g`. -/
abbrev normed (x : FVec Ideal S8704x4096 .f32) (g : FVec Ideal Cert.NormReferenceIdeal.S4096 .f32) : FVec Ideal S8704x4096 .bf16 :=
  truncf .bf16 (mulf (mulf x
    (broadcastInDim Cert.NormReferenceIdeal.S8704x4096 ![0, 1] Cert.NormReferenceIdeal.Gen.bcast_S8704x1_S8704x4096_0_1
      (Host.rsqrt (addf (Host.divf (broadcastInDim Cert.NormReferenceIdeal.S8704x1 ![0] Cert.NormReferenceIdeal.Gen.bcast_S8704_S8704x1_0
          (Host.reduceAdd (mulf x x) (constant (F := Ideal) Cert.NormReferenceIdeal.S_ .f32 0x00000000#32)
            Cert.NormReferenceIdeal.Gen.reducesTo_S8704x4096_S8704_d1 Cert.NormReferenceIdeal.Gen.h_S_))
        (broadcastInDim Cert.NormReferenceIdeal.S8704x1 ![] Cert.NormReferenceIdeal.Gen.bcast_S_S8704x1
          (constant (F := Ideal) Cert.NormReferenceIdeal.S_ .f32 0x45800000#32)))
        (broadcastInDim Cert.NormReferenceIdeal.S8704x1 ![] Cert.NormReferenceIdeal.Gen.bcast_S_S8704x1
          (constant (F := Ideal) Cert.NormReferenceIdeal.S_ .f32 0x358637BD#32))))))
    (broadcastInDim Cert.NormReferenceIdeal.S8704x4096 ![0, 1] Cert.NormReferenceIdeal.Gen.bcast_S1x4096_S8704x4096_0_1
      (broadcastInDim Cert.NormReferenceIdeal.S1x4096 ![1] Cert.NormReferenceIdeal.Gen.bcast_S4096_S1x4096_1 g)))
    Cert.NormReferenceIdeal.Gen.bitsLt_bf16_f32

/-- Point `t` of the grid reads and writes row block `t`; the weight is one block. -/
theorem idx : ∀ t : Fin cfg0.N, win0_0.index t = ![t.val, 0] ∧ win0_1.index t = ![0, 0] ∧ win0_2.index t = ![t.val, 0] :=
  (by decide +kernel : ∀ t : Fin grid0.N, _)

/-- What the body stores at `y` in its block is the reference's value where the block puts `y`. -/
theorem point (c : Dev nD) (t : Fin cfg0.N) (y) : k0_pay1 (iblk m c 0 t) (iblk m c 1 t) y
    = normed (m ((c : Thread nD τ).loc main_arg0)) (m ((c : Thread nD τ).loc main_arg1)) (((cfg0.win 2).blk t).view.emb y) := by
  pointwise [k0_pay1, normed]
  blk_point [iblk, V, idx t]

/-- The array after the run is the reference's. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Call and reference leave the same array. -/
theorem algebraic [hI : Cert.NormIdeal.Facts] [hR : Cert.NormReferenceIdeal.Facts] :
    Cert.algebraic_NormIdeal_NormReferenceIdeal := fun m g m' g' _ h =>
  ⟨fun c => normed (m ((c : Thread nD τ).loc main_arg0)) (m ((c : Thread nD τ).loc main_arg1)),
    (θ_run _ _ _).mono (fun r hr c => ⟨(hr c).1.trans (final m c), (hr c).2⟩) (Cert.NormIdeal.Value.run_blocks m g),
    (θ_run _ _ _).mono (fun r hr c => ⟨(hr c).1.trans (by rw [(h c).1, (h c).2]), (hr c).2⟩)
      (Cert.NormReferenceIdeal.Value.run m' g')⟩

/-- The reference ends with its arguments unchanged and no counter left. -/
theorem frame_reference [hR : Cert.NormReferenceIdeal.Facts] : Cert.quiescent_NormReferenceIdeal := fun m g _ =>
  (θ_run _ _ _).mono (fun r h => ⟨fun c => (h c).2, sem_eq_zero_of_no_sems (by decide) r.2⟩)
    (Cert.NormReferenceIdeal.Value.run m g)

end Cert.NormEq

end
-- ==== Proof.GatesEq.lean ====
/- The gates' call: the array it writes is the logistic function of the plain product. -/
module

public import proofs.«01_k».proof.Defs
public import proofs.«01_k».proof.Proof.Gen.GatesIdeal.Value
public import proofs.«01_k».proof.Proof.Gen.GatesReferenceIdeal.Run
public import Idealize.ShloMosaic.Lib.Pipeline.ValueKit

@[expose] public section

set_option maxRecDepth 16384

noncomputable section

namespace Cert.GatesEq

open Idealize.ShloMosaic Idealize.ShloMosaic.TcCoe Idealize.SL.Sem
open Idealize.ShloMosaic.Pipeline (Dat)
open Cert.GatesIdeal Cert.GatesIdeal.Gen

variable (m : (ℓ : Loc nD τ sig) → Buf (Elt Ideal) ℓ)

/-- The reference's gates of the normed rows `h` and the gates' weight `w`: the logistic function of `h w`. -/
abbrev gates (h : FVec Ideal S8704x4096 .f32) (w : FVec Ideal S4096x8192 .f32) : FVec Ideal S8704x8192 .bf16 :=
  truncf .bf16 (Host.divf (broadcastInDim Cert.GatesReferenceIdeal.S8704x8192 ![] Cert.GatesReferenceIdeal.Gen.bcast_S_S8704x8192 (constant (F := Ideal) Cert.GatesReferenceIdeal.S_ .f32 0x3F800000#32))
    (addf (broadcastInDim Cert.GatesReferenceIdeal.S8704x8192 ![] Cert.GatesReferenceIdeal.Gen.bcast_S_S8704x8192 (constant (F := Ideal) Cert.GatesReferenceIdeal.S_ .f32 0x3F800000#32))
      (Host.exp (Host.negf (Host.dotGeneral Cert.GatesReferenceIdeal.dot_S8704x4096_S4096x8192_S8704x8192_1_0_0_1_n_n none h w)))))
    Cert.GatesReferenceIdeal.Gen.bitsLt_bf16_f32

/-- Point `t` of the grid reads row block `t / 8` and column block `t % 8`, and writes the block at both. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- What the body stores at `y` in its block is the reference's value where the block puts `y`. -/
theorem point (c : Dev nD) (t : Fin cfg0.N) (y) : k0_pay1 (iblk m c 0 t) (iblk m c 1 t) y
    = gates (m ((c : Thread nD τ).loc main_arg0)) (m ((c : Thread nD τ).loc main_arg1)) (((cfg0.win 2).blk t).view.emb y) := by
  pointwise [k0_pay1, gates]
  simp only [zero_sub]
  blk_point [iblk, V, idx t]

/-- The array after the run is the reference's. -/
theorem final (c : Dev nD) : (dats m 0 c).arrAt 2 cfg0.N
    = gates (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Call and reference leave the same array. -/
theorem algebraic [hI : Cert.GatesIdeal.Facts] [hR : Cert.GatesReferenceIdeal.Facts] :
    Cert.algebraic_GatesIdeal_GatesReferenceIdeal := fun m g m' g' _ h =>
  ⟨fun c => gates (m ((c : Thread nD τ).loc main_arg0)) (m ((c : Thread nD τ).loc main_arg1)),
    (θ_run _ _ _).mono (fun r hr c => ⟨(hr c).1.trans (final m c), (hr c).2⟩) (Cert.GatesIdeal.Value.run_blocks m g),
    (θ_run _ _ _).mono (fun r hr c => ⟨(hr c).1.trans (by rw [(h c).1, (h c).2]), (hr c).2⟩)
      (Cert.GatesReferenceIdeal.Value.run m' g')⟩

/-- The reference ends with its arguments unchanged and no counter left. -/
theorem frame_reference [hR : Cert.GatesReferenceIdeal.Facts] : Cert.quiescent_GatesReferenceIdeal := fun m g _ =>
  (θ_run _ _ _).mono (fun r h => ⟨fun c => (h c).2, sem_eq_zero_of_no_sems (by decide) r.2⟩)
    (Cert.GatesReferenceIdeal.Value.run m g)

end Cert.GatesEq

end
-- ==== Proof.MergeEq.lean ====
/- The merge's call: the array it writes is the two branches' plain products, each times its gates, added. -/
module

public import proofs.«01_k».proof.Defs
public import proofs.«01_k».proof.Proof.Gen.MergeIdeal.Value
public import proofs.«01_k».proof.Proof.Gen.MergeReferenceIdeal.Run
public import Idealize.ShloMosaic.Lib.Pipeline.ValueKit

@[expose] public section

set_option maxRecDepth 16384

noncomputable section

namespace Cert.MergeEq

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The reference's merge: the two branches' outputs `a` and `b` through their weights `u` and `v`, each times its half
    of the gates `z`, added. -/
abbrev merged (a b : FVec Ideal S8704x2048 .f32) (u v : FVec Ideal S2048x4096 .f32) (z : FVec Ideal S8704x8192 .f32) :
    FVec Ideal S8704x4096 .bf16 :=
  truncf .bf16 (addf
    (mulf (extractStridedSlice Cert.MergeReferenceIdeal.S8704x4096 ![0, 0] z Cert.MergeReferenceIdeal.Gen.slices_S8704x8192_S8704x4096_0_0)
      (Host.dotGeneral Cert.MergeReferenceIdeal.dot_S8704x2048_S2048x4096_S8704x4096_1_0_0_1_n_n none a u))
    (mulf (extractStridedSlice Cert.MergeReferenceIdeal.S8704x4096 ![0, 4096] z Cert.MergeReferenceIdeal.Gen.slices_S8704x8192_S8704x4096_0_4096)
      (Host.dotGeneral Cert.MergeReferenceIdeal.dot_S8704x2048_S2048x4096_S8704x4096_1_0_0_1_n_n none b v)))
    Cert.MergeReferenceIdeal.Gen.bitsLt_bf16_f32

/-- Point `t` of the grid reads row block `t / 8` and column block `t % 8`, the second gates eight blocks further, and
    writes the block at both. -/
theorem idx : ∀ t : Fin cfg0.N, win0_0.index t = ![t.val / 8, 0] ∧ win0_1.index t = ![t.val / 8, 0]
    ∧ win0_2.index t = ![0, t.val % 8] ∧ win0_3.index t = ![0, t.val % 8] ∧ win0_4.index t = ![t.val / 8, t.val % 8]
    ∧ win0_5.index t = ![t.val / 8, 8 + t.val % 8] ∧ win0_6.index t = ![t.val / 8, t.val % 8] :=
  (by decide +kernel : ∀ t : Fin grid0.N, _)

/-- What the body stores at `y` in its block is the reference's value where the block puts `y`. -/
theorem point (c : Dev nD) (t : Fin cfg0.N) (y) :
    k0_pay1 (iblk m c 0 t) (iblk m c 2 t) (iblk m c 1 t) (iblk m c 3 t) (iblk m c 4 t) (iblk m c 5 t) y
    = merged (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y) := by
  pointwise [k0_pay1, merged]
  blk_point [iblk, V, idx t]

/-- The array after the run is the reference's. -/
theorem final (c : Dev nD) : (dats m 0 c).arrAt 6 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

/-- Call and reference leave the same array. -/
theorem algebraic [hI : Cert.MergeIdeal.Facts] [hR : Cert.MergeReferenceIdeal.Facts] :
    Cert.algebraic_MergeIdeal_MergeReferenceIdeal := fun m g m' g' _ h =>
  ⟨fun c => merged (m ((c : Thread nD τ).loc main_arg0)) (m ((c : Thread nD τ).loc main_arg1))
      (m ((c : Thread nD τ).loc main_arg2)) (m ((c : Thread nD τ).loc main_arg3)) (m ((c : Thread nD τ).loc main_arg4)),
    (θ_run _ _ _).mono (fun r hr c => ⟨(hr c).1.trans (final m c), (hr c).2⟩) (Cert.MergeIdeal.Value.run_blocks m g),
    (θ_run _ _ _).mono (fun r hr c => ⟨(hr c).1.trans
        (by rw [(h c).1, (h c).2.1, (h c).2.2.1, (h c).2.2.2.1, (h c).2.2.2.2]), (hr c).2⟩)
      (Cert.MergeReferenceIdeal.Value.run m' g')⟩

/-- The reference ends with its arguments unchanged and no counter left. -/
theorem frame_reference [hR : Cert.MergeReferenceIdeal.Facts] : Cert.quiescent_MergeReferenceIdeal := fun m g _ =>
  (θ_run _ _ _).mono (fun r h => ⟨fun c => (h c).2, sem_eq_zero_of_no_sems (by decide) r.2⟩)
    (Cert.MergeReferenceIdeal.Value.run m g)

end Cert.MergeEq

end
-- ==== Proof.OutProjEq.lean ====
/- The output projection's call: the array it writes is the residual plus the plain product. -/
module

public import proofs.«01_k».proof.Defs
public import proofs.«01_k».proof.Proof.Gen.OutProjIdeal.Value
public import proofs.«01_k».proof.Proof.Gen.OutProjReferenceIdeal.Run
public import Idealize.ShloMosaic.Lib.Pipeline.ValueKit

@[expose] public section

set_option maxRecDepth 16384

noncomputable section

namespace Cert.OutProjEq

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ)

/-- The reference's output projection: the rows `x` plus the merged rows `a` times the weight `w`. -/
abbrev projected (a : FVec Ideal S8704x4096 .f32) (w : FVec Ideal S4096x4096 .f32) (x : FVec Ideal S8704x4096 .f32) :
    FVec Ideal S8704x4096 .f32 :=
  addf x (Host.dotGeneral Cert.OutProjReferenceIdeal.dot_S8704x4096_S4096x4096_S8704x4096_1_0_0_1_n_n none a w)

/-- Point `t` of the grid reads row block `t / 4` and column block `t % 4`, and writes the block at both. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- What the body stores at `y` in its block is the reference's value where the block puts `y`. -/
theorem point (c : Dev nD) (t : Fin cfg0.N) (y) : k0_pay1 (iblk m c 0 t) (iblk m c 1 t) (iblk m c 2 t) y
    = projected (m ((c : Thread nD τ).loc main_arg0)) (m ((c : Thread nD τ).loc main_arg1))
      (m ((c : Thread nD τ).loc main_arg2)) (((cfg0.win 3).blk t).view.emb y) := by
  pointwise [k0_pay1, projected]
  blk_point [iblk, V, idx t]

/-- The array after the run is the reference's. -/
theorem final (c : Dev nD) : (dats m 0 c).arrAt 3 cfg0.N
    = projected (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  frame_out
  exact point m c t y

/-- Call and reference leave the same array. -/
theorem algebraic [hI : Cert.OutProjIdeal.Facts] [hR : Cert.OutProjReferenceIdeal.Facts] :
    Cert.algebraic_OutProjIdeal_OutProjReferenceIdeal := fun m g m' g' _ h =>
  ⟨fun c => projected (m ((c : Thread nD τ).loc main_arg0)) (m ((c : Thread nD τ).loc main_arg1))
      (m ((c : Thread nD τ).loc main_arg2)),
    (θ_run _ _ _).mono (fun r hr c => ⟨(hr c).1.trans (final m c), (hr c).2⟩) (Cert.OutProjIdeal.Value.run_blocks m g),
    (θ_run _ _ _).mono (fun r hr c => ⟨(hr c).1.trans (by rw [(h c).1, (h c).2.1, (h c).2.2]), (hr c).2⟩)
      (Cert.OutProjReferenceIdeal.Value.run m' g')⟩

/-- The reference ends with its arguments unchanged and no counter left. -/
theorem frame_reference [hR : Cert.OutProjReferenceIdeal.Facts] : Cert.quiescent_OutProjReferenceIdeal := fun m g _ =>
  (θ_run _ _ _).mono (fun r h => ⟨fun c => (h c).2, sem_eq_zero_of_no_sems (by decide) r.2⟩)
    (Cert.OutProjReferenceIdeal.Value.run m g)

end Cert.OutProjEq

end
-- ==== Proof.QbEq.lean ====
/- The call of the block attention's queries: the array it writes is the plain product. -/
module

public import proofs.«01_k».proof.Defs
public import proofs.«01_k».proof.Proof.Gen.QbIdeal.Value
public import proofs.«01_k».proof.Proof.Gen.QbReferenceIdeal.Run
public import Idealize.ShloMosaic.Lib.Pipeline.ValueKit

@[expose] public section

set_option maxRecDepth 16384

noncomputable section

namespace Cert.QbEq

open Idealize.ShloMosaic Idealize.ShloMosaic.TcCoe Idealize.SL.Sem
open Idealize.ShloMosaic.Pipeline (Dat)
open Cert.QbIdeal Cert.QbIdeal.Gen

variable (m : (ℓ : Loc nD τ sig) → Buf (Elt Ideal) ℓ)

/-- The reference's block attention queries: the normed rows `h` times the weight `w`. -/
abbrev queries (h : FVec Ideal S8704x4096 .f32) (w : FVec Ideal S4096x2048 .f32) : FVec Ideal S8704x2048 .bf16 :=
  truncf .bf16 (Host.dotGeneral Cert.QbReferenceIdeal.dot_S8704x4096_S4096x2048_S8704x2048_1_0_0_1_n_n none h w)
    Cert.QbReferenceIdeal.Gen.bitsLt_bf16_f32

/-- Point `t` of the grid reads row block `t / 2` and column block `t % 2`, and writes the block at both. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What the body stores at `y` in its block is the reference's value where the block puts `y`. -/
theorem point (c : Dev nD) (t : Fin cfg0.N) (y) : k0_pay1 (iblk m c 0 t) (iblk m c 1 t) y
    = queries (m ((c : Thread nD τ).loc main_arg0)) (m ((c : Thread nD τ).loc main_arg1)) (((cfg0.win 2).blk t).view.emb y) := by
  pointwise [k0_pay1, queries]
  blk_point [iblk, V, idx t]

/-- The array after the run is the reference's. -/
theorem final (c : Dev nD) : (dats m 0 c).arrAt 2 cfg0.N
    = queries (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Call and reference leave the same array. -/
theorem algebraic [hI : Cert.QbIdeal.Facts] [hR : Cert.QbReferenceIdeal.Facts] :
    Cert.algebraic_QbIdeal_QbReferenceIdeal := fun m g m' g' _ h =>
  ⟨fun c => queries (m ((c : Thread nD τ).loc main_arg0)) (m ((c : Thread nD τ).loc main_arg1)),
    (θ_run _ _ _).mono (fun r hr c => ⟨(hr c).1.trans (final m c), (hr c).2⟩) (Cert.QbIdeal.Value.run_blocks m g),
    (θ_run _ _ _).mono (fun r hr c => ⟨(hr c).1.trans (by rw [(h c).1, (h c).2]), (hr c).2⟩)
      (Cert.QbReferenceIdeal.Value.run m' g')⟩

/-- The reference ends with its arguments unchanged and no counter left. -/
theorem frame_reference [hR : Cert.QbReferenceIdeal.Facts] : Cert.quiescent_QbReferenceIdeal := fun m g _ =>
  (θ_run _ _ _).mono (fun r h => ⟨fun c => (h c).2, sem_eq_zero_of_no_sems (by decide) r.2⟩)
    (Cert.QbReferenceIdeal.Value.run m g)

end Cert.QbEq

end
-- ==== Proof.KvEq.lean ====
/- The call of the block attention's keys and values: the arrays it writes are the plain product. -/
module

public import proofs.«01_k».proof.Defs
public import proofs.«01_k».proof.Proof.Gen.KvIdeal.Value
public import proofs.«01_k».proof.Proof.Gen.KvReferenceIdeal.Run
public import Idealize.ShloMosaic.Lib.Pipeline.ValueKit

@[expose] public section

set_option maxRecDepth 16384

noncomputable section

namespace Cert.KvEq

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- The reference's keys and values: the normed rows `h` times the weight `w`. -/
abbrev keys (h : FVec Ideal S8704x4096 .f32) (w : FVec Ideal S4096x512 .f32) : FVec Ideal S8704x512 .f32 :=
  Host.dotGeneral Cert.KvReferenceIdeal.dot_S8704x4096_S4096x512_S8704x512_1_0_0_1_n_n none h w

/-- The same keys and values in the cache's format. -/
abbrev cached (h : FVec Ideal S8704x4096 .f32) (w : FVec Ideal S4096x512 .f32) : FVec Ideal S8704x512 .bf16 :=
  truncf .bf16 (keys h w) Cert.KvReferenceIdeal.Gen.bitsLt_bf16_f32

/-- Point `t` of the grid reads and writes row block `t`; the weight is one block. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What the body stores at `y` in its first block is the reference's value where the block puts `y`. -/
theorem point_keys (c : Dev nD) (t : Fin cfg0.N) (y) : k0_pay1 (iblk m c 0 t) (iblk m c 1 t) y
    = keys (m ((c : Thread nD τ).loc main_arg0)) (m ((c : Thread nD τ).loc main_arg1)) (((cfg0.win 2).blk t).view.emb y) := by
  pointwise [k0_pay1, keys]
  blk_point [iblk, V, idx t]

/-- What the body stores at `y` in its second block is the reference's value where the block puts `y`. -/
theorem point_cached (c : Dev nD) (t : Fin cfg0.N) (y) : k0_pay2 (iblk m c 0 t) (iblk m c 1 t) y
    = cached (m ((c : Thread nD τ).loc main_arg0)) (m ((c : Thread nD τ).loc main_arg1)) (((cfg0.win 3).blk t).view.emb y) := by
  pointwise [k0_pay2, k0_pay1, cached, keys]
  blk_point [iblk, V, idx t]

/-- The first array after the run is the reference's. -/
theorem final_keys (c : Dev nD) : (dats m 0 c).arrAt 2 cfg0.N
    = keys (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point_keys m c t y

/-- The second array after the run is the reference's. -/
theorem final_cached (c : Dev nD) : (dats m 0 c).arrAt 3 cfg0.N
    = cached (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point_cached m c t y

/-- Call and reference leave the same two arrays. -/
theorem algebraic [hI : Cert.KvIdeal.Facts] [hR : Cert.KvReferenceIdeal.Facts] :
    Cert.algebraic_KvIdeal_KvReferenceIdeal := fun m g m' g' _ h =>
  ⟨fun c => keys (m ((c : Thread nD τ).loc main_arg0)) (m ((c : Thread nD τ).loc main_arg1)),
    fun c => cached (m ((c : Thread nD τ).loc main_arg0)) (m ((c : Thread nD τ).loc main_arg1)),
    (θ_run _ _ _).mono (fun r hr c => ⟨(hr c).1.trans (final_keys m c), (hr c).2.1.trans (final_cached m c), (hr c).2.2⟩)
      (Cert.KvIdeal.Value.run_blocks m g),
    (θ_run _ _ _).mono (fun r hr c => ⟨(hr c).1.trans (by rw [(h c).1, (h c).2]),
        (hr c).2.1.trans (by rw [(h c).1, (h c).2]), (hr c).2.2⟩)
      (Cert.KvReferenceIdeal.Value.run m' g')⟩

/-- The reference ends with its arguments unchanged and no counter left. -/
theorem frame_reference [hR : Cert.KvReferenceIdeal.Facts] : Cert.quiescent_KvReferenceIdeal := fun m g _ =>
  (θ_run _ _ _).mono (fun r h => ⟨fun c => (h c).2.2, sem_eq_zero_of_no_sems (by decide) r.2⟩)
    (Cert.KvReferenceIdeal.Value.run m g)

end Cert.KvEq

end
-- ==== Proof.CqEq.lean ====
/- The call of the compressed queries: the array it writes is the normed plain product. -/
module

public import proofs.«01_k».proof.Defs
public import proofs.«01_k».proof.Proof.Gen.CqIdeal.Value
public import proofs.«01_k».proof.Proof.Gen.CqReferenceIdeal.Run
public import Idealize.ShloMosaic.Lib.Pipeline.ValueKit

@[expose] public section

set_option maxRecDepth 16384

noncomputable section

namespace Cert.CqEq

open Idealize.ShloMosaic Idealize.ShloMosaic.TcCoe Idealize.SL.Sem
open Idealize.ShloMosaic.Pipeline (Dat)
open Cert.CqIdeal Cert.CqIdeal.Gen

variable (m : (ℓ : Loc nD τ sig) → Buf (Elt Ideal) ℓ)

/-- The plain product of the normed rows `h` and the weight `w`. -/
abbrev product (h : FVec Ideal S8704x4096 .f32) (w : FVec Ideal S4096x1024 .f32) : FVec Ideal S8704x1024 .f32 :=
  Host.dotGeneral Cert.CqReferenceIdeal.dot_S8704x4096_S4096x1024_S8704x1024_1_0_0_1_n_n none h w

/-- The reference's compressed queries: the rows of `p` over the root of their mean square, times the weight `g`. -/
abbrev normed (p : FVec Ideal S8704x1024 .f32) (g : FVec Ideal Cert.CqReferenceIdeal.S1024 .f32) : FVec Ideal S8704x1024 .bf16 :=
  truncf .bf16 (mulf (mulf p
    (broadcastInDim Cert.CqReferenceIdeal.S8704x1024 ![0, 1] Cert.CqReferenceIdeal.Gen.bcast_S8704x1_S8704x1024_0_1
      (Host.rsqrt (addf (Host.divf (broadcastInDim Cert.CqReferenceIdeal.S8704x1 ![0] Cert.CqReferenceIdeal.Gen.bcast_S8704_S8704x1_0
          (Host.reduceAdd (mulf p p) (constant (F := Ideal) Cert.CqReferenceIdeal.S_ .f32 0x00000000#32)
            Cert.CqReferenceIdeal.Gen.reducesTo_S8704x1024_S8704_d1 Cert.CqReferenceIdeal.Gen.h_S_))
        (broadcastInDim Cert.CqReferenceIdeal.S8704x1 ![] Cert.CqReferenceIdeal.Gen.bcast_S_S8704x1
          (constant (F := Ideal) Cert.CqReferenceIdeal.S_ .f32 0x44800000#32)))
        (broadcastInDim Cert.CqReferenceIdeal.S8704x1 ![] Cert.CqReferenceIdeal.Gen.bcast_S_S8704x1
          (constant (F := Ideal) Cert.CqReferenceIdeal.S_ .f32 0x358637BD#32))))))
    (broadcastInDim Cert.CqReferenceIdeal.S8704x1024 ![0, 1] Cert.CqReferenceIdeal.Gen.bcast_S1x1024_S8704x1024_0_1
      (broadcastInDim Cert.CqReferenceIdeal.S1x1024 ![1] Cert.CqReferenceIdeal.Gen.bcast_S1024_S1x1024_1 g)))
    Cert.CqReferenceIdeal.Gen.bitsLt_bf16_f32

/-- Point `t` of the grid reads and writes row block `t`; the weights are one block each. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- What the body stores at `y` in its block is the reference's value where the block puts `y`. -/
theorem point (c : Dev nD) (t : Fin cfg0.N) (y) : k0_pay1 (iblk m c 0 t) (iblk m c 1 t) (iblk m c 2 t) y
    = normed (product (m ((c : Thread nD τ).loc main_arg0)) (m ((c : Thread nD τ).loc main_arg1)))
      (m ((c : Thread nD τ).loc main_arg2)) (((cfg0.win 3).blk t).view.emb y) := by
  pointwise [k0_pay1, normed, product]
  blk_point [iblk, V, idx t]

/-- The array after the run is the reference's. -/
theorem final (c : Dev nD) : (dats m 0 c).arrAt 3 cfg0.N
    = normed (product (m ((c : Thread nD τ).loc main_arg0)) (m ((c : Thread nD τ).loc main_arg1)))
      (m ((c : Thread nD τ).loc main_arg2)) := by
  refine (dats m 0 c).arrAt_eq_of_covers 3 _ (by decide +kernel) fun t _ y => ?_
  blk_simp
  rw [after0_3]
  frame_out
  exact point m c t y

/-- Call and reference leave the same array. -/
theorem algebraic [hI : Cert.CqIdeal.Facts] [hR : Cert.CqReferenceIdeal.Facts] :
    Cert.algebraic_CqIdeal_CqReferenceIdeal := fun m g m' g' _ h =>
  ⟨fun c => normed (product (m ((c : Thread nD τ).loc main_arg0)) (m ((c : Thread nD τ).loc main_arg1)))
      (m ((c : Thread nD τ).loc main_arg2)),
    (θ_run _ _ _).mono (fun r hr c => ⟨(hr c).1.trans (final m c), (hr c).2⟩) (Cert.CqIdeal.Value.run_blocks m g),
    (θ_run _ _ _).mono (fun r hr c => ⟨(hr c).1.trans (by rw [(h c).1, (h c).2.1, (h c).2.2]), (hr c).2⟩)
      (Cert.CqReferenceIdeal.Value.run m' g')⟩

/-- The reference ends with its arguments unchanged and no counter left. -/
theorem frame_reference [hR : Cert.CqReferenceIdeal.Facts] : Cert.quiescent_CqReferenceIdeal := fun m g _ =>
  (θ_run _ _ _).mono (fun r h => ⟨fun c => (h c).2, sem_eq_zero_of_no_sems (by decide) r.2⟩)
    (Cert.CqReferenceIdeal.Value.run m g)

end Cert.CqEq

end
-- ==== Proof.CkrEq.lean ====
/- The call of the latent rows: the arrays it writes are the normed latent lanes and the rotated key lanes. -/
module

public import proofs.«01_k».proof.Defs
public import proofs.«01_k».proof.Proof.Gen.CkrIdeal.Value
public import proofs.«01_k».proof.Proof.Gen.CkrReferenceIdeal.Run
public import Idealize.ShloMosaic.Lib.Pipeline.ValueKit

@[expose] public section

set_option maxRecDepth 16384

noncomputable section

namespace Cert.CkrEq

open Idealize.ShloMosaic Idealize.ShloMosaic.TcCoe Idealize.SL.Sem
open Idealize.ShloMosaic.Pipeline (Dat)
open Cert.CkrIdeal Cert.CkrIdeal.Gen

variable (m : (ℓ : Loc nD τ sig) → Buf (Elt Ideal) ℓ)

/-- The plain product of the normed rows `h` and the weight `w`. -/
abbrev product (h : FVec Ideal S8704x4096 .f32) (w : FVec Ideal S4096x576 .f32) : FVec Ideal S8704x576 .f32 :=
  Host.dotGeneral Cert.CkrReferenceIdeal.dot_S8704x4096_S4096x576_S8704x576_1_0_0_1_n_n none h w

/-- The latent lanes of `p`. -/
abbrev latent (p : FVec Ideal S8704x576 .f32) : FVec Ideal Cert.CkrReferenceIdeal.S8704x512 .f32 :=
  extractStridedSlice Cert.CkrReferenceIdeal.S8704x512 ![0, 0] p Cert.CkrReferenceIdeal.Gen.slices_S8704x576_S8704x512_0_0

/-- The reference's norm of the latent lanes `p`, with the weight `g`. -/
abbrev normed (p : FVec Ideal Cert.CkrReferenceIdeal.S8704x512 .f32) (g : FVec Ideal S512 .f32) : FVec Ideal Cert.CkrReferenceIdeal.S8704x512 .f32 :=
  mulf (mulf p
    (broadcastInDim Cert.CkrReferenceIdeal.S8704x512 ![0, 1] Cert.CkrReferenceIdeal.Gen.bcast_S8704x1_S8704x512_0_1
      (Host.rsqrt (addf (Host.divf (broadcastInDim Cert.CkrReferenceIdeal.S8704x1 ![0] Cert.CkrReferenceIdeal.Gen.bcast_S8704_S8704x1_0
          (Host.reduceAdd (mulf p p) (constant (F := Ideal) Cert.CkrReferenceIdeal.S_ .f32 0x00000000#32)
            Cert.CkrReferenceIdeal.Gen.reducesTo_S8704x512_S8704_d1 Cert.CkrReferenceIdeal.Gen.h_S_))
        (broadcastInDim Cert.CkrReferenceIdeal.S8704x1 ![] Cert.CkrReferenceIdeal.Gen.bcast_S_S8704x1 (constant (F := Ideal) Cert.CkrReferenceIdeal.S_ .f32 0x44000000#32)))
        (broadcastInDim Cert.CkrReferenceIdeal.S8704x1 ![] Cert.CkrReferenceIdeal.Gen.bcast_S_S8704x1 (constant (F := Ideal) Cert.CkrReferenceIdeal.S_ .f32 0x358637BD#32))))))
    (broadcastInDim Cert.CkrReferenceIdeal.S8704x512 ![0, 1] Cert.CkrReferenceIdeal.Gen.bcast_S1x512_S8704x512_0_1
      (broadcastInDim Cert.CkrReferenceIdeal.S1x512 ![1] Cert.CkrReferenceIdeal.Gen.bcast_S512_S1x512_1 g))

/-- The reference's angles, of the positions `pos` and 32 frequencies. -/
abbrev angle (pos : IVec S8704 32) : FVec Ideal S8704x32 .f32 :=
  mulf (broadcastInDim Cert.CkrReferenceIdeal.S8704x32 ![0, 1] Cert.CkrReferenceIdeal.Gen.bcast_S8704x1_S8704x32_0_1
      (broadcastInDim Cert.CkrReferenceIdeal.S8704x1 ![0] Cert.CkrReferenceIdeal.Gen.bcast_S8704_S8704x1_0 (sitofp .f32 pos)))
    (broadcastInDim Cert.CkrReferenceIdeal.S8704x32 ![0, 1] Cert.CkrReferenceIdeal.Gen.bcast_S1x32_S8704x32_0_1
      (broadcastInDim Cert.CkrReferenceIdeal.S1x32 ![1] Cert.CkrReferenceIdeal.Gen.bcast_S32_S1x32_1
        (Host.powf (broadcastInDim Cert.CkrReferenceIdeal.S32 ![] Cert.CkrReferenceIdeal.Gen.bcast_S_S32 (constant (F := Ideal) Cert.CkrReferenceIdeal.S_ .f32 0x461C4000#32))
          (Host.divf (Host.negf (sitofp .f32 (iotaInDim Cert.CkrReferenceIdeal.S32 32 0)))
            (broadcastInDim Cert.CkrReferenceIdeal.S32 ![] Cert.CkrReferenceIdeal.Gen.bcast_S_S32 (constant (F := Ideal) Cert.CkrReferenceIdeal.S_ .f32 0x42000000#32))))))

/-- The key lanes of `p`. -/
abbrev key (p : FVec Ideal S8704x576 .f32) : FVec Ideal Cert.CkrReferenceIdeal.S8704x64 .f32 :=
  extractStridedSlice Cert.CkrReferenceIdeal.S8704x64 ![0, 512] p Cert.CkrReferenceIdeal.Gen.slices_S8704x576_S8704x64_0_512

/-- The first half of the key lanes `k`. -/
abbrev low (k : FVec Ideal Cert.CkrReferenceIdeal.S8704x64 .f32) : FVec Ideal S8704x32 .f32 :=
  extractStridedSlice Cert.CkrReferenceIdeal.S8704x32 ![0, 0] k Cert.CkrReferenceIdeal.Gen.slices_S8704x64_S8704x32_0_0

/-- The second half of the key lanes `k`. -/
abbrev high (k : FVec Ideal Cert.CkrReferenceIdeal.S8704x64 .f32) : FVec Ideal S8704x32 .f32 :=
  extractStridedSlice Cert.CkrReferenceIdeal.S8704x32 ![0, 32] k Cert.CkrReferenceIdeal.Gen.slices_S8704x64_S8704x32_0_32

/-- The reference's rotation of the key lanes `k` by the angles `a`. -/
abbrev rotated (k : FVec Ideal Cert.CkrReferenceIdeal.S8704x64 .f32) (a : FVec Ideal S8704x32 .f32) : FVec Ideal Cert.CkrReferenceIdeal.S8704x64 .f32 :=
  concatenate Cert.CkrReferenceIdeal.S8704x64 1 [⟨Cert.CkrReferenceIdeal.S8704x32, subf (mulf (low k) (Host.cos a)) (mulf (high k) (Host.sin a))⟩,
    ⟨Cert.CkrReferenceIdeal.S8704x32, addf (mulf (low k) (Host.sin a)) (mulf (high k) (Host.cos a))⟩] Cert.CkrReferenceIdeal.Gen.concatenates_S8704x32_S8704x32_S8704x64_d1

/-- The reference's latent rows, from the product `p`. -/
abbrev rows (p : FVec Ideal S8704x576 .f32) (g : FVec Ideal S512 .f32) (pos : IVec S8704 32) : FVec Ideal S8704x576 .f32 :=
  concatenate Cert.CkrReferenceIdeal.S8704x576 1 [⟨Cert.CkrReferenceIdeal.S8704x512, normed (latent p) g⟩,
    ⟨Cert.CkrReferenceIdeal.S8704x64, rotated (key p) (angle pos)⟩] Cert.CkrReferenceIdeal.Gen.concatenates_S8704x512_S8704x64_S8704x576_d1

/-- The reference's rows `r` in 640 lanes. -/
abbrev wide (r : FVec Ideal S8704x576 .f32) : FVec Ideal S8704x640 .bf16 :=
  truncf .bf16 (pad Cert.CkrReferenceIdeal.S8704x640 ![0, 0] ![0, 64] ![0, 0] r (sitofp .f32 (constantI Cert.CkrReferenceIdeal.S_ 32 0#32))
    Cert.CkrReferenceIdeal.Gen.pads_S8704x576_S8704x640_000_0640 Cert.CkrReferenceIdeal.Gen.h_S_) Cert.CkrReferenceIdeal.Gen.bitsLt_bf16_f32

/-- Lane `j` of the product of row `a` of `h` with the weight `w`, zero past the weight's columns. -/
def col (h : FVec Ideal S8704x4096 .f32) (w : FVec Ideal S4096x576 .f32) (a : Fin 8704) (j : ℕ) : EReal :=
  ∑ k : Fin 4096, h (ix2 a k) * (if hj : j < 576 then w (ix2 k (⟨j, hj⟩ : Fin 576)) else (0 : EReal))

/-- The angle of a position at frequency `i`. -/
def ang (p : BitVec 32) (i : ℕ) : EReal :=
  (FloatOps.sitofp .f32 p : Ideal .f32) * Ideal.pow (Ideal.ofBits .f32 0x461C4000#32)
    (Ideal.div (-(FloatOps.sitofp .f32 (BitVec.ofNat 32 i) : Ideal .f32)) (Ideal.ofBits .f32 0x42000000#32))

/-- Lane `x` of row `a` of what both sides write, in 640 lanes. -/
def lane (h : FVec Ideal S8704x4096 .f32) (w : FVec Ideal S4096x576 .f32) (g : FVec Ideal S512 .f32) (pos : IVec S8704 32)
    (a : Fin 8704) (x : ℕ) : EReal :=
  if hx : x < 512 then
    col h w a x * Ideal.rsqrt (Ideal.div (∑ j : Fin 512, col h w a j.val * col h w a j.val) (Ideal.ofBits .f32 0x44000000#32)
      + Ideal.ofBits .f32 0x358637BD#32) * g (ix1 (⟨x, hx⟩ : Fin 512))
  else if x < 544 then
    col h w a x * Ideal.cos (ang (pos (ix1 a)) (x - 512)) - col h w a (x + 32) * Ideal.sin (ang (pos (ix1 a)) (x - 512))
  else if x < 576 then
    col h w a (x - 32) * Ideal.sin (ang (pos (ix1 a)) (x - 544)) + col h w a x * Ideal.cos (ang (pos (ix1 a)) (x - 544))
  else 0

/-- The lanes past the weight's columns are zero. -/
theorem col_zero (h : FVec Ideal S8704x4096 .f32) (w : FVec Ideal S4096x576 .f32) (a : Fin 8704) (j : ℕ) (hj : ¬ j < 576) :
    col h w a j = 0 := by
  simp only [col, hj, dif_neg, not_false_eq_true, mul_zero, Finset.sum_const_zero]

/-- A lane within the weight's columns is the plain product. -/
theorem col_eq (h : FVec Ideal S8704x4096 .f32) (w : FVec Ideal S4096x576 .f32) (a : Fin 8704) (j : Fin 576) (n : ℕ) (hn : j.val = n) :
    ∑ k : Fin 4096, h (ix2 a k) * w (ix2 k j) = col h w a n := by
  subst hn
  simp only [col, j.isLt, dif_pos, Fin.eta]

/-- The integer zero that pads is the zero. -/
theorem pad_zero : (FloatOps.sitofp .f32 (0#32 : BitVec 32) : Ideal .f32) = (0 : EReal) := by
  show (((0#32 : BitVec 32).toInt : ℝ) : EReal) = 0
  simp

/-- The reference's rows, lane by lane. -/
theorem rows_apply (h : FVec Ideal S8704x4096 .f32) (w : FVec Ideal S4096x576 .f32) (g : FVec Ideal S512 .f32) (pos : IVec S8704 32)
    (a : Fin 8704) (x : Fin 576) : rows (product h w) g pos (ix2 a x) = lane h w g pos a x.val := by
  have hx := x.isLt
  pointwise [rows, product]
  unfold lane
  by_cases h1 : x.val < 512
  · simp only [h1, dif_pos]
    rw [col_eq h w a x _ rfl]
    simp only [fun y : Fin 512 => col_eq h w a (⟨y.val, by omega⟩ : Fin 576) y.val rfl]
  · by_cases h2 : x.val < 544
    · have h3 : x.val - 512 < 32 := by omega
      simp only [h1, h2, h3, dif_neg, dif_pos, if_pos, not_false_eq_true]
      rw [col_eq h w a _ x.val (by dsimp only; omega), col_eq h w a _ (x.val + 32) (by dsimp only; omega)]
      rfl
    · have h3 : ¬ x.val - 512 < 32 := by omega
      simp only [h1, h2, h3, hx, dif_neg, if_pos, if_neg, not_false_eq_true]
      rw [col_eq h w a _ (x.val - 32) (by dsimp only; omega), col_eq h w a _ x.val (by dsimp only; omega)]
      rw [show x.val - 512 - 32 = x.val - 544 by omega]
      rfl

/-- The reference's rows in 640 lanes, lane by lane. -/
theorem wide_apply (h : FVec Ideal S8704x4096 .f32) (w : FVec Ideal S4096x576 .f32) (g : FVec Ideal S512 .f32) (pos : IVec S8704 32)
    (a : Fin 8704) (x : Fin 640) : wide (rows (product h w) g pos) (ix2 a x) = lane h w g pos a x.val := by
  have hr := rows_apply h w g pos
  generalize rows (product h w) g pos = R at hr ⊢
  pointwise [wide]
  rw [pad_zero]
  by_cases hx : x.val < 576
  · simp only [hx, dif_pos]
    exact hr a ⟨x.val, hx⟩
  · have h1 : ¬ x.val < 512 := by omega
    have h2 : ¬ x.val < 544 := by omega
    simp only [hx, dif_neg, not_false_eq_true, lane, h1, h2, if_neg]

/-- The cosines' table. -/
theorem cos_apply (c : Dev nD) (a : Fin 8704) (x : Fin 128) : V m c main_v15 (ix2 a x)
    = if x.val < 32 then Ideal.cos (ang (m ((c : Thread nD τ).loc main_arg3) (ix1 a)) x.val)
      else if x.val < 64 then Ideal.cos (ang (m ((c : Thread nD τ).loc main_arg3) (ix1 a)) (x.val - 32))
      else 0 := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  after_results_simp
  pointwise
  have e : (x.val - 32 < 32) = (x.val < 64) := by simp only [eq_iff_iff]; omega
  simp only [e]
  rfl

/-- The sines' table, the first half with the sign of the rotation. -/
theorem sin_apply (c : Dev nD) (a : Fin 8704) (x : Fin 128) : V m c main_v19 (ix2 a x)
    = if x.val < 32 then -Ideal.sin (ang (m ((c : Thread nD τ).loc main_arg3) (ix1 a)) x.val)
      else if x.val < 64 then Ideal.sin (ang (m ((c : Thread nD τ).loc main_arg3) (ix1 a)) (x.val - 32))
      else 0 := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  after_results_simp
  pointwise
  have e : (x.val - 32 < 32) = (x.val < 64) := by simp only [eq_iff_iff]; omega
  simp only [e]
  rfl

/-- The padded weight. -/
theorem weight_apply (c : Dev nD) (k : Fin 4096) (x : Fin 640) : V m c main_v21 (ix2 k x)
    = if h : x.val < 576 then m ((c : Thread nD τ).loc main_arg1) (ix2 k (⟨x.val, h⟩ : Fin 576)) else (0 : EReal) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  rw [pad_zero]

/-- The normed rows. -/
theorem input_apply (c : Dev nD) (a : Fin 8704) (k : Fin 4096) : V m c main_v22 (ix2 a k) = m ((c : Thread nD τ).loc main_arg0) (ix2 a k) := by
  simp only [V, hostOps0, hostOps0_1, hostOps0_2, List.flatten_cons, List.flatten_nil, List.append_nil, List.cons_append, List.nil_append]
  after_results
  pointwise

/-- The norm's weight, as one row. -/
theorem gain_apply (c : Dev nD) (x : Fin 512) : V m c main_v23 (ix2 (0 : Fin 1) x) = m ((c : Thread nD τ).loc main_arg2) (ix1 x) := by
  simp only [V, hostOps0, hostOps0_1, hostOps0_2, List.flatten_cons, List.flatten_nil, List.append_nil, List.cons_append, List.nil_append]
  after_results
  pointwise

/-- Point `t` of the grid reads and writes row block `t`; the weights are one block each. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the body computes in lane `x` of a row `r`, on blocks of the products' operands, the norm's weight and the tables. -/
theorem body_apply (h : FVec Ideal S8704x4096 .f32) (w : FVec Ideal S4096x576 .f32) (g : FVec Ideal S512 .f32) (pos : IVec S8704 32)
    (B0 : Vec Ideal S512x4096 .bf16) (B1 : Vec Ideal S4096x640 .bf16) (B2 : Vec Ideal S1x512 .f32) (B3 B4 : Vec Ideal S512x128 .f32)
    (r : Fin 512) (a : Fin 8704) (b0 : ∀ k : Fin 4096, B0 (ix2 r k) = h (ix2 a k))
    (b1 : ∀ (k : Fin 4096) (x : Fin 640), B1 (ix2 k x) = if hx : x.val < 576 then w (ix2 k (⟨x.val, hx⟩ : Fin 576)) else (0 : EReal))
    (b2 : ∀ x : Fin 512, B2 (ix2 (0 : Fin 1) x) = g (ix1 x))
    (b3 : ∀ x : Fin 128, B3 (ix2 r x) = if x.val < 32 then Ideal.cos (ang (pos (ix1 a)) x.val)
      else if x.val < 64 then Ideal.cos (ang (pos (ix1 a)) (x.val - 32)) else 0)
    (b4 : ∀ x : Fin 128, B4 (ix2 r x) = if x.val < 32 then -Ideal.sin (ang (pos (ix1 a)) x.val)
      else if x.val < 64 then Ideal.sin (ang (pos (ix1 a)) (x.val - 32)) else 0) (x : Fin 640) :
    k0_pay1 B0 B1 B2 B3 B4 (ix2 r x) = lane h w g pos a x.val := by
  have hx := x.isLt
  have d : ∀ (y : Fin 640) (n : ℕ), y.val = n → ∑ k : Fin 4096, B0 (ix2 r k) * B1 (ix2 k y) = col h w a n := by
    rintro y _ rfl
    exact Finset.sum_congr rfl fun k _ => by rw [b0, b1]
  pointwise [k0_pay1]
  unfold lane
  by_cases h1 : x.val < 512
  · simp only [h1, dif_pos]
    rw [d x _ rfl, b2]
    simp only [fun y : Fin 512 => d (⟨y.val, by omega⟩ : Fin 640) y.val rfl]
  · simp only [h1, dif_neg, not_false_eq_true]
    rw [d _ x.val (by dsimp only; omega), b3, b4]
    by_cases h2 : x.val < 544
    · have h3 : x.val - 512 < 32 := by omega
      rw [d _ (x.val + 32) (by dsimp only; omega), d _ (x.val + 96) (by dsimp only; omega), col_zero _ _ _ (x.val + 96) (by omega)]
      simp only [h2, h3, if_pos, add_zero, mul_neg, sub_eq_add_neg]
    · by_cases h4 : x.val < 576
      · have h3 : ¬ x.val - 512 < 32 := by omega
        have h5 : x.val - 512 < 64 := by omega
        rw [d _ (x.val + 32) (by dsimp only; omega), d _ (x.val - 32) (by dsimp only; omega), col_zero _ _ _ (x.val + 32) (by omega)]
        simp only [h2, h3, h4, h5, if_pos, if_neg, not_false_eq_true, zero_add]
        rw [add_comm, show x.val - 512 - 32 = x.val - 544 by omega]
      · have h3 : ¬ x.val - 512 < 32 := by omega
        have h5 : ¬ x.val - 512 < 64 := by omega
        simp only [h2, h3, h4, h5, if_neg, not_false_eq_true, mul_zero, add_zero]

/-- What the body computes in lane `x` of row `r` is the reference's lane of the row that the block puts there. -/
theorem pay_apply (c : Dev nD) (t : Fin cfg0.N) (r : Fin 512) (a : Fin 8704) (ha : a.val = 512 * t.val + r.val) (x : Fin 640) :
    k0_pay1 (iblk m c 0 t) (iblk m c 1 t) (iblk m c 2 t) (iblk m c 3 t) (iblk m c 4 t) (ix2 r x)
      = lane (m ((c : Thread nD τ).loc main_arg0)) (m ((c : Thread nD τ).loc main_arg1)) (m ((c : Thread nD τ).loc main_arg2))
        (m ((c : Thread nD τ).loc main_arg3)) a x.val := by
  have ht : t.val < 17 := lt_of_lt_of_eq t.isLt N_0
  refine body_apply _ _ _ _ _ _ _ _ _ r a (fun k => ?_) (fun k x => ?_) (fun x => ?_) (fun x => ?_) (fun x => ?_) x
  · exact (show iblk m c 0 t (ix2 r k) = V m c main_v22 (ix2 a k) by blk_ext [iblk, idx t]).trans (input_apply m c a k)
  · exact (show iblk m c 1 t (ix2 k x) = V m c main_v21 (ix2 k x) by blk_ext [iblk, idx t]).trans (weight_apply m c k x)
  · exact (show iblk m c 2 t (ix2 (0 : Fin 1) x) = V m c main_v23 (ix2 (0 : Fin 1) x) by blk_ext [iblk, idx t]).trans (gain_apply m c x)
  · exact (show iblk m c 3 t (ix2 r x) = V m c main_v15 (ix2 a x) by blk_ext [iblk, idx t]).trans (cos_apply m c a x)
  · exact (show iblk m c 4 t (ix2 r x) = V m c main_v19 (ix2 a x) by blk_ext [iblk, idx t]).trans (sin_apply m c a x)

/-- The body's first store is the first 576 lanes of what it computes. -/
theorem cut_apply (B0 : Vec Ideal S512x4096 .bf16) (B1 : Vec Ideal S4096x640 .bf16) (B2 : Vec Ideal S1x512 .f32)
    (B3 B4 : Vec Ideal S512x128 .f32) (r : Fin 512) (x : Fin 576) :
    k0_pay2 B0 B1 B2 B3 B4 (ix2 r x) = k0_pay1 B0 B1 B2 B3 B4 (ix2 r (⟨x.val, by omega⟩ : Fin 640)) := by
  unfold k0_pay2
  generalize k0_pay1 B0 B1 B2 B3 B4 = P
  pointwise

/-- The body's second store is the whole of it. -/
theorem cast_apply (B0 : Vec Ideal S512x4096 .bf16) (B1 : Vec Ideal S4096x640 .bf16) (B2 : Vec Ideal S1x512 .f32)
    (B3 B4 : Vec Ideal S512x128 .f32) (r : Fin 512) (x : Fin 640) :
    k0_pay3 B0 B1 B2 B3 B4 (ix2 r x) = k0_pay1 B0 B1 B2 B3 B4 (ix2 r x) := rfl

/-- What the body stores at `y` in its first block is the reference's value where the block puts `y`. -/
theorem point_rows (c : Dev nD) (t : Fin cfg0.N) (y : S512x576.Idx) :
    k0_pay2 (iblk m c 0 t) (iblk m c 1 t) (iblk m c 2 t) (iblk m c 3 t) (iblk m c 4 t) y
    = rows (product (m ((c : Thread nD τ).loc main_arg0)) (m ((c : Thread nD τ).loc main_arg1)))
      (m ((c : Thread nD τ).loc main_arg2)) (m ((c : Thread nD τ).loc main_arg3)) (((cfg0.win 5).blk t).view.emb y) := by
  have ht : t.val < 17 := lt_of_lt_of_eq t.isLt N_0
  have y0 : (y 0).val < 512 := (y 0).isLt
  have y1 : (y 1).val < 576 := (y 1).isLt
  have he : ((cfg0.win 5).blk t).view.emb y = ix2 (⟨512 * t.val + (y 0).val, by omega⟩ : Fin 8704) (⟨(y 1).val, y1⟩ : Fin 576) := by
    blk_ext [idx t]
  have hy : y = ix2 (⟨(y 0).val, y0⟩ : Fin 512) (⟨(y 1).val, y1⟩ : Fin 576) := by
    funext i
    match i with | ⟨0, _⟩ => rfl | ⟨1, _⟩ => rfl
  rw [he]
  refine ((congrArg _ hy).trans (cut_apply _ _ _ _ _ _ _)).trans ((pay_apply m c t _ (⟨512 * t.val + (y 0).val, by omega⟩ : Fin 8704) rfl _).trans ?_)
  exact (rows_apply _ _ _ _ _ _).symm

/-- What the body stores at `y` in its second block is the reference's value where the block puts `y`. -/
theorem point_wide (c : Dev nD) (t : Fin cfg0.N) (y : S512x640.Idx) :
    k0_pay3 (iblk m c 0 t) (iblk m c 1 t) (iblk m c 2 t) (iblk m c 3 t) (iblk m c 4 t) y
    = wide (rows (product (m ((c : Thread nD τ).loc main_arg0)) (m ((c : Thread nD τ).loc main_arg1)))
      (m ((c : Thread nD τ).loc main_arg2)) (m ((c : Thread nD τ).loc main_arg3))) (((cfg0.win 6).blk t).view.emb y) := by
  have ht : t.val < 17 := lt_of_lt_of_eq t.isLt N_0
  have y0 : (y 0).val < 512 := (y 0).isLt
  have y1 : (y 1).val < 640 := (y 1).isLt
  have he : ((cfg0.win 6).blk t).view.emb y = ix2 (⟨512 * t.val + (y 0).val, by omega⟩ : Fin 8704) (⟨(y 1).val, y1⟩ : Fin 640) := by
    blk_ext [idx t]
  have hy : y = ix2 (⟨(y 0).val, y0⟩ : Fin 512) (⟨(y 1).val, y1⟩ : Fin 640) := by
    funext i
    match i with | ⟨0, _⟩ => rfl | ⟨1, _⟩ => rfl
  rw [he]
  refine ((congrArg _ hy).trans (cast_apply _ _ _ _ _ _ _)).trans ((pay_apply m c t _ (⟨512 * t.val + (y 0).val, by omega⟩ : Fin 8704) rfl _).trans ?_)
  exact (wide_apply _ _ _ _ _ _).symm

/-- The first array after the run is the reference's. -/
theorem final_rows (c : Dev nD) : (dats m 0 c).arrAt 5 cfg0.N
    = rows (product (m ((c : Thread nD τ).loc main_arg0)) (m ((c : Thread nD τ).loc main_arg1)))
      (m ((c : Thread nD τ).loc main_arg2)) (m ((c : Thread nD τ).loc main_arg3)) := by
  refine (dats m 0 c).arrAt_eq_of_covers 5 _ (by decide +kernel) fun t _ y => ?_
  blk_simp
  rw [after0_5]
  frame_out
  exact point_rows m c t y

/-- The second array after the run is the reference's. -/
theorem final_wide (c : Dev nD) : (dats m 0 c).arrAt 6 cfg0.N
    = wide (rows (product (m ((c : Thread nD τ).loc main_arg0)) (m ((c : Thread nD τ).loc main_arg1)))
      (m ((c : Thread nD τ).loc main_arg2)) (m ((c : Thread nD τ).loc main_arg3))) := by
  refine (dats m 0 c).arrAt_eq_of_covers 6 _ (by decide +kernel) fun t _ y => ?_
  blk_simp
  rw [after0_6]
  frame_out
  exact point_wide m c t y

/-- Call and reference leave the same two arrays. -/
theorem algebraic [hI : Cert.CkrIdeal.Facts] [hR : Cert.CkrReferenceIdeal.Facts] :
    Cert.algebraic_CkrIdeal_CkrReferenceIdeal := fun m g m' g' _ h =>
  ⟨fun c => rows (product (m ((c : Thread nD τ).loc main_arg0)) (m ((c : Thread nD τ).loc main_arg1)))
      (m ((c : Thread nD τ).loc main_arg2)) (m ((c : Thread nD τ).loc main_arg3)),
    fun c => wide (rows (product (m ((c : Thread nD τ).loc main_arg0)) (m ((c : Thread nD τ).loc main_arg1)))
      (m ((c : Thread nD τ).loc main_arg2)) (m ((c : Thread nD τ).loc main_arg3))),
    (θ_run _ _ _).mono (fun r hr c => ⟨(hr c).1.trans (final_rows m c), (hr c).2.1.trans (final_wide m c), (hr c).2.2⟩)
      (Cert.CkrIdeal.Value.run_blocks m g),
    (θ_run _ _ _).mono (fun r hr c => ⟨(hr c).1.trans (by unfold Cert.CkrReferenceIdeal.Value.res_main_v39; rw [(h c).1, (h c).2.1, (h c).2.2.1, (h c).2.2.2]),
        (hr c).2.1.trans (by unfold Cert.CkrReferenceIdeal.Value.res_main_v41; rw [(h c).1, (h c).2.1, (h c).2.2.1, (h c).2.2.2]), (hr c).2.2⟩)
      (Cert.CkrReferenceIdeal.Value.run m' g')⟩

/-- The reference ends with its arguments unchanged and no counter left. -/
theorem frame_reference [hR : Cert.CkrReferenceIdeal.Facts] : Cert.quiescent_CkrReferenceIdeal := fun m g _ =>
  (θ_run _ _ _).mono (fun r h => ⟨fun c => (h c).2.2, sem_eq_zero_of_no_sems (by decide) r.2⟩)
    (Cert.CkrReferenceIdeal.Value.run m g)

end Cert.CkrEq

end
-- ==== Proof.FinalPEq.lean ====
/- The last call for the prompt's rows: the array it writes is the normed residual with the experts' outputs. -/
module

public import proofs.«01_k».proof.Defs
public import proofs.«01_k».proof.Proof.Gen.FinalPIdeal.Value
public import proofs.«01_k».proof.Proof.Gen.FinalPReferenceIdeal.Run
public import Idealize.ShloMosaic.Lib.Pipeline.ValueKit

@[expose] public section

set_option maxRecDepth 16384

noncomputable section

namespace Cert.FinalPEq

open Idealize.ShloMosaic Idealize.ShloMosaic.TcCoe Idealize.SL.Sem
open Idealize.ShloMosaic.Pipeline (Dat)
open Cert.FinalPIdeal Cert.FinalPIdeal.Gen

variable (m : (ℓ : Loc nD τ sig) → Buf (Elt Ideal) ℓ)

/-- The reference's last residual rows (the prompt's): the rows of `x` plus the sum of the two experts' outputs `y`. -/
abbrev rows (x : FVec Ideal S8704x4096 .f32) (y : FVec Ideal S2x8704x4096 .f32) : FVec Ideal Cert.FinalPReferenceIdeal.S8192x4096 .f32 :=
  addf (extractStridedSlice Cert.FinalPReferenceIdeal.S8192x4096 ![0, 0] x Cert.FinalPReferenceIdeal.Gen.slices_S8704x4096_S8192x4096_0_0)
    (addf (shapeCast Cert.FinalPReferenceIdeal.S8192x4096 (extractStridedSlice Cert.FinalPReferenceIdeal.S1x8192x4096 ![0, 0, 0] y
          Cert.FinalPReferenceIdeal.Gen.slices_S2x8704x4096_S1x8192x4096_0_0_0) Cert.FinalPReferenceIdeal.Gen.shapeCasts_S1x8192x4096_S8192x4096)
      (shapeCast Cert.FinalPReferenceIdeal.S8192x4096 (extractStridedSlice Cert.FinalPReferenceIdeal.S1x8192x4096 ![1, 0, 0] y
          Cert.FinalPReferenceIdeal.Gen.slices_S2x8704x4096_S1x8192x4096_1_0_0) Cert.FinalPReferenceIdeal.Gen.shapeCasts_S1x8192x4096_S8192x4096))

/-- The reference's last norm: the rows of `p` over the root of their mean square, times the weight `g`. -/
abbrev normed (p : FVec Ideal Cert.FinalPReferenceIdeal.S8192x4096 .f32) (g : FVec Ideal Cert.FinalPReferenceIdeal.S4096 .f32) :
    FVec Ideal Cert.FinalPReferenceIdeal.S8192x4096 .f32 :=
  mulf (mulf p
    (broadcastInDim Cert.FinalPReferenceIdeal.S8192x4096 ![0, 1] Cert.FinalPReferenceIdeal.Gen.bcast_S8192x1_S8192x4096_0_1
      (Host.rsqrt (addf (Host.divf (broadcastInDim Cert.FinalPReferenceIdeal.S8192x1 ![0] Cert.FinalPReferenceIdeal.Gen.bcast_S8192_S8192x1_0
          (Host.reduceAdd (mulf p p) (constant (F := Ideal) Cert.FinalPReferenceIdeal.S_ .f32 0x00000000#32)
            Cert.FinalPReferenceIdeal.Gen.reducesTo_S8192x4096_S8192_d1 Cert.FinalPReferenceIdeal.Gen.h_S_))
        (broadcastInDim Cert.FinalPReferenceIdeal.S8192x1 ![] Cert.FinalPReferenceIdeal.Gen.bcast_S_S8192x1
          (constant (F := Ideal) Cert.FinalPReferenceIdeal.S_ .f32 0x45800000#32)))
        (broadcastInDim Cert.FinalPReferenceIdeal.S8192x1 ![] Cert.FinalPReferenceIdeal.Gen.bcast_S_S8192x1
          (constant (F := Ideal) Cert.FinalPReferenceIdeal.S_ .f32 0x358637BD#32))))))
    (broadcastInDim Cert.FinalPReferenceIdeal.S8192x4096 ![0, 1] Cert.FinalPReferenceIdeal.Gen.bcast_S1x4096_S8192x4096_0_1
      (broadcastInDim Cert.FinalPReferenceIdeal.S1x4096 ![1] Cert.FinalPReferenceIdeal.Gen.bcast_S4096_S1x4096_1 g))

/-- Point `t` of the grid reads row block `t.val` of the residual and of both experts' outputs, and writes row block `t`. -/
theorem idx : ∀ t : Fin cfg0.N, win0_0.index t = ![t.val, 0] ∧ win0_1.index t = ![0, t.val, 0]
    ∧ win0_2.index t = ![1, t.val, 0] ∧ win0_3.index t = ![0, 0] ∧ win0_4.index t = ![t.val, 0] :=
  (by decide +kernel : ∀ t : Fin grid0.N, _)

/-- What the body stores at `y` in its block is the reference's value where the block puts `y`: the kernel adds the
    experts' outputs one after the other, the reference their sum. -/
theorem point (c : Dev nD) (t : Fin cfg0.N) (y) : k0_pay1 (iblk m c 0 t) (iblk m c 1 t) (iblk m c 2 t) (iblk m c 3 t) y
    = normed (rows (m ((c : Thread nD τ).loc main_arg0)) (m ((c : Thread nD τ).loc main_arg1)))
      (m ((c : Thread nD τ).loc main_arg2)) (((cfg0.win 4).blk t).view.emb y) := by
  pointwise [k0_pay1, normed, rows]
  simp only [add_assoc]
  blk_point [iblk, V, idx t]

/-- The array after the run is the reference's. -/
theorem final (c : Dev nD) : (dats m 0 c).arrAt 4 cfg0.N
    = normed (rows (m ((c : Thread nD τ).loc main_arg0)) (m ((c : Thread nD τ).loc main_arg1)))
      (m ((c : Thread nD τ).loc main_arg2)) := by
  refine (dats m 0 c).arrAt_eq_of_covers 4 _ (by decide +kernel) fun t _ y => ?_
  blk_simp
  rw [after0_4]
  frame_out
  exact point m c t y

/-- Call and reference leave the same array. -/
theorem algebraic [hI : Cert.FinalPIdeal.Facts] [hR : Cert.FinalPReferenceIdeal.Facts] :
    Cert.algebraic_FinalPIdeal_FinalPReferenceIdeal := fun m g m' g' _ h =>
  ⟨fun c => normed (rows (m ((c : Thread nD τ).loc main_arg0)) (m ((c : Thread nD τ).loc main_arg1)))
      (m ((c : Thread nD τ).loc main_arg2)),
    (θ_run _ _ _).mono (fun r hr c => ⟨(hr c).1.trans (final m c), (hr c).2⟩) (Cert.FinalPIdeal.Value.run_blocks m g),
    (θ_run _ _ _).mono (fun r hr c => ⟨(hr c).1.trans (by rw [(h c).1, (h c).2.1, (h c).2.2]), (hr c).2⟩)
      (Cert.FinalPReferenceIdeal.Value.run m' g')⟩

/-- The reference ends with its arguments unchanged and no counter left. -/
theorem frame_reference [hR : Cert.FinalPReferenceIdeal.Facts] : Cert.quiescent_FinalPReferenceIdeal := fun m g _ =>
  (θ_run _ _ _).mono (fun r h => ⟨fun c => (h c).2, sem_eq_zero_of_no_sems (by decide) r.2⟩)
    (Cert.FinalPReferenceIdeal.Value.run m g)

end Cert.FinalPEq

end
-- ==== Proof.FinalSEq.lean ====
/- The last call for the samples' rows: the array it writes is the normed residual with the experts' outputs. -/
module

public import proofs.«01_k».proof.Defs
public import proofs.«01_k».proof.Proof.Gen.FinalSIdeal.Value
public import proofs.«01_k».proof.Proof.Gen.FinalSReferenceIdeal.Run
public import Idealize.ShloMosaic.Lib.Pipeline.ValueKit

@[expose] public section

set_option maxRecDepth 16384

noncomputable section

namespace Cert.FinalSEq

open Idealize.ShloMosaic Idealize.ShloMosaic.TcCoe Idealize.SL.Sem
open Idealize.ShloMosaic.Pipeline (Dat)
open Cert.FinalSIdeal Cert.FinalSIdeal.Gen

variable (m : (ℓ : Loc nD τ sig) → Buf (Elt Ideal) ℓ)

/-- The reference's last residual rows (the samples'): the rows of `x` plus the sum of the two experts' outputs `y`. -/
abbrev rows (x : FVec Ideal S8704x4096 .f32) (y : FVec Ideal S2x8704x4096 .f32) : FVec Ideal Cert.FinalSReferenceIdeal.S512x4096 .f32 :=
  addf (extractStridedSlice Cert.FinalSReferenceIdeal.S512x4096 ![8192, 0] x Cert.FinalSReferenceIdeal.Gen.slices_S8704x4096_S512x4096_8192_0)
    (addf (shapeCast Cert.FinalSReferenceIdeal.S512x4096 (extractStridedSlice Cert.FinalSReferenceIdeal.S1x512x4096 ![0, 8192, 0] y
          Cert.FinalSReferenceIdeal.Gen.slices_S2x8704x4096_S1x512x4096_0_8192_0) Cert.FinalSReferenceIdeal.Gen.shapeCasts_S1x512x4096_S512x4096)
      (shapeCast Cert.FinalSReferenceIdeal.S512x4096 (extractStridedSlice Cert.FinalSReferenceIdeal.S1x512x4096 ![1, 8192, 0] y
          Cert.FinalSReferenceIdeal.Gen.slices_S2x8704x4096_S1x512x4096_1_8192_0) Cert.FinalSReferenceIdeal.Gen.shapeCasts_S1x512x4096_S512x4096))

/-- The reference's last norm: the rows of `p` over the root of their mean square, times the weight `g`. -/
abbrev normed (p : FVec Ideal Cert.FinalSReferenceIdeal.S512x4096 .f32) (g : FVec Ideal Cert.FinalSReferenceIdeal.S4096 .f32) :
    FVec Ideal Cert.FinalSReferenceIdeal.S512x4096 .f32 :=
  mulf (mulf p
    (broadcastInDim Cert.FinalSReferenceIdeal.S512x4096 ![0, 1] Cert.FinalSReferenceIdeal.Gen.bcast_S512x1_S512x4096_0_1
      (Host.rsqrt (addf (Host.divf (broadcastInDim Cert.FinalSReferenceIdeal.S512x1 ![0] Cert.FinalSReferenceIdeal.Gen.bcast_S512_S512x1_0
          (Host.reduceAdd (mulf p p) (constant (F := Ideal) Cert.FinalSReferenceIdeal.S_ .f32 0x00000000#32)
            Cert.FinalSReferenceIdeal.Gen.reducesTo_S512x4096_S512_d1 Cert.FinalSReferenceIdeal.Gen.h_S_))
        (broadcastInDim Cert.FinalSReferenceIdeal.S512x1 ![] Cert.FinalSReferenceIdeal.Gen.bcast_S_S512x1
          (constant (F := Ideal) Cert.FinalSReferenceIdeal.S_ .f32 0x45800000#32)))
        (broadcastInDim Cert.FinalSReferenceIdeal.S512x1 ![] Cert.FinalSReferenceIdeal.Gen.bcast_S_S512x1
          (constant (F := Ideal) Cert.FinalSReferenceIdeal.S_ .f32 0x358637BD#32))))))
    (broadcastInDim Cert.FinalSReferenceIdeal.S512x4096 ![0, 1] Cert.FinalSReferenceIdeal.Gen.bcast_S1x4096_S512x4096_0_1
      (broadcastInDim Cert.FinalSReferenceIdeal.S1x4096 ![1] Cert.FinalSReferenceIdeal.Gen.bcast_S4096_S1x4096_1 g))

/-- Point `t` of the grid reads row block `32 + t.val` of the residual and of both experts' outputs, and writes row block `t`. -/
theorem idx : ∀ t : Fin cfg0.N, win0_0.index t = ![32 + t.val, 0] ∧ win0_1.index t = ![0, 32 + t.val, 0]
    ∧ win0_2.index t = ![1, 32 + t.val, 0] ∧ win0_3.index t = ![0, 0] ∧ win0_4.index t = ![t.val, 0] :=
  (by decide +kernel : ∀ t : Fin grid0.N, _)

/-- What the body stores at `y` in its block is the reference's value where the block puts `y`: the kernel adds the
    experts' outputs one after the other, the reference their sum. -/
theorem point (c : Dev nD) (t : Fin cfg0.N) (y) : k0_pay1 (iblk m c 0 t) (iblk m c 1 t) (iblk m c 2 t) (iblk m c 3 t) y
    = normed (rows (m ((c : Thread nD τ).loc main_arg0)) (m ((c : Thread nD τ).loc main_arg1)))
      (m ((c : Thread nD τ).loc main_arg2)) (((cfg0.win 4).blk t).view.emb y) := by
  pointwise [k0_pay1, normed, rows]
  simp only [add_assoc]
  blk_point [iblk, V, idx t]

/-- The array after the run is the reference's. -/
theorem final (c : Dev nD) : (dats m 0 c).arrAt 4 cfg0.N
    = normed (rows (m ((c : Thread nD τ).loc main_arg0)) (m ((c : Thread nD τ).loc main_arg1)))
      (m ((c : Thread nD τ).loc main_arg2)) := by
  refine (dats m 0 c).arrAt_eq_of_covers 4 _ (by decide +kernel) fun t _ y => ?_
  blk_simp
  rw [after0_4]
  frame_out
  exact point m c t y

/-- Call and reference leave the same array. -/
theorem algebraic [hI : Cert.FinalSIdeal.Facts] [hR : Cert.FinalSReferenceIdeal.Facts] :
    Cert.algebraic_FinalSIdeal_FinalSReferenceIdeal := fun m g m' g' _ h =>
  ⟨fun c => normed (rows (m ((c : Thread nD τ).loc main_arg0)) (m ((c : Thread nD τ).loc main_arg1)))
      (m ((c : Thread nD τ).loc main_arg2)),
    (θ_run _ _ _).mono (fun r hr c => ⟨(hr c).1.trans (final m c), (hr c).2⟩) (Cert.FinalSIdeal.Value.run_blocks m g),
    (θ_run _ _ _).mono (fun r hr c => ⟨(hr c).1.trans (by rw [(h c).1, (h c).2.1, (h c).2.2]), (hr c).2⟩)
      (Cert.FinalSReferenceIdeal.Value.run m' g')⟩

/-- The reference ends with its arguments unchanged and no counter left. -/
theorem frame_reference [hR : Cert.FinalSReferenceIdeal.Facts] : Cert.quiescent_FinalSReferenceIdeal := fun m g _ =>
  (θ_run _ _ _).mono (fun r h => ⟨fun c => (h c).2, sem_eq_zero_of_no_sems (by decide) r.2⟩)
    (Cert.FinalSReferenceIdeal.Value.run m g)

end Cert.FinalSEq

end
-- ==== Proof.QpEq.lean ====
/- The call of the queries: the array it writes is the queries against the latent, with their rotated lanes, head first. -/
module

public import proofs.«01_k».proof.Defs
public import proofs.«01_k».proof.Proof.Gen.QpIdeal.Value
public import proofs.«01_k».proof.Proof.Gen.QpReferenceIdeal.Run
public import Idealize.ShloMosaic.Lib.Pipeline.ValueKit

@[expose] public section

set_option maxRecDepth 16384

noncomputable section

namespace Cert.QpEq

open Idealize.ShloMosaic Idealize.ShloMosaic.TcCoe Idealize.SL.Sem
open Idealize.ShloMosaic.Pipeline (Dat)
open Cert.QpIdeal Cert.QpIdeal.Gen

variable (m : (ℓ : Loc nD τ sig) → Buf (Elt Ideal) ℓ)

/-- The plain product of the rows `q` and the weight `w`, for every head. -/
abbrev query (q : FVec Ideal S8704x1024 .f32) (w : FVec Ideal S1024x16x192 .f32) : FVec Ideal Cert.QpReferenceIdeal.S8704x16x192 .f32 :=
  Host.dotGeneral Cert.QpReferenceIdeal.dot_S8704x1024_S1024x16x192_S8704x16x192_1_0_0_12_n_n none q w

/-- The queries `p` against the latent lanes. -/
abbrev absorbed (p : FVec Ideal Cert.QpReferenceIdeal.S8704x16x192 .f32) (u : FVec Ideal S512x16x128 .f32) : FVec Ideal Cert.QpReferenceIdeal.S8704x16x512 .f32 :=
  transpose Cert.QpReferenceIdeal.S8704x16x512 [2, 0, 1]
    (Host.dotGeneral Cert.QpReferenceIdeal.dot_S512x16x128_S8704x16x128_S16x512x8704_2_2_0_0_1_1 none u
      (extractStridedSlice Cert.QpReferenceIdeal.S8704x16x128 ![0, 0, 0] p Cert.QpReferenceIdeal.Gen.slices_S8704x16x192_S8704x16x128_0_0_0))
    Cert.QpReferenceIdeal.Gen.transposes_S16x512x8704_S8704x16x512_2_0_1

/-- The reference's angles, of the positions `pos` and 32 frequencies. -/
abbrev angle (pos : IVec S8704 32) : FVec Ideal Cert.QpReferenceIdeal.S8704x32 .f32 :=
  mulf (broadcastInDim Cert.QpReferenceIdeal.S8704x32 ![0, 1] Cert.QpReferenceIdeal.Gen.bcast_S8704x1_S8704x32_0_1
      (broadcastInDim Cert.QpReferenceIdeal.S8704x1 ![0] Cert.QpReferenceIdeal.Gen.bcast_S8704_S8704x1_0 (sitofp .f32 pos)))
    (broadcastInDim Cert.QpReferenceIdeal.S8704x32 ![0, 1] Cert.QpReferenceIdeal.Gen.bcast_S1x32_S8704x32_0_1
      (broadcastInDim Cert.QpReferenceIdeal.S1x32 ![1] Cert.QpReferenceIdeal.Gen.bcast_S32_S1x32_1
        (Host.powf (broadcastInDim Cert.QpReferenceIdeal.S32 ![] Cert.QpReferenceIdeal.Gen.bcast_S_S32 (constant (F := Ideal) Cert.QpReferenceIdeal.S_ .f32 0x461C4000#32))
          (Host.divf (Host.negf (sitofp .f32 (iotaInDim Cert.QpReferenceIdeal.S32 32 0)))
            (broadcastInDim Cert.QpReferenceIdeal.S32 ![] Cert.QpReferenceIdeal.Gen.bcast_S_S32 (constant (F := Ideal) Cert.QpReferenceIdeal.S_ .f32 0x42000000#32))))))

/-- The angles' values `a`, the same for every head. -/
abbrev every (a : FVec Ideal Cert.QpReferenceIdeal.S8704x32 .f32) : FVec Ideal Cert.QpReferenceIdeal.S8704x16x32 .f32 :=
  broadcastInDim Cert.QpReferenceIdeal.S8704x16x32 ![0, 1, 2] Cert.QpReferenceIdeal.Gen.bcast_S8704x1x32_S8704x16x32_0_1_2
    (broadcastInDim Cert.QpReferenceIdeal.S8704x1x32 ![0, 2] Cert.QpReferenceIdeal.Gen.bcast_S8704x32_S8704x1x32_0_2 a)

/-- The first half of the rotary lanes of `p`. -/
abbrev low (p : FVec Ideal Cert.QpReferenceIdeal.S8704x16x192 .f32) : FVec Ideal Cert.QpReferenceIdeal.S8704x16x32 .f32 :=
  extractStridedSlice Cert.QpReferenceIdeal.S8704x16x32 ![0, 0, 128] p Cert.QpReferenceIdeal.Gen.slices_S8704x16x192_S8704x16x32_0_0_128

/-- The second half of the rotary lanes of `p`. -/
abbrev high (p : FVec Ideal Cert.QpReferenceIdeal.S8704x16x192 .f32) : FVec Ideal Cert.QpReferenceIdeal.S8704x16x32 .f32 :=
  extractStridedSlice Cert.QpReferenceIdeal.S8704x16x32 ![0, 0, 160] p Cert.QpReferenceIdeal.Gen.slices_S8704x16x192_S8704x16x32_0_0_160

/-- The reference's rotation of the queries `p` by the angles `a`. -/
abbrev rotated (p : FVec Ideal Cert.QpReferenceIdeal.S8704x16x192 .f32) (a : FVec Ideal Cert.QpReferenceIdeal.S8704x32 .f32) : FVec Ideal Cert.QpReferenceIdeal.S8704x16x64 .f32 :=
  concatenate Cert.QpReferenceIdeal.S8704x16x64 2 [⟨Cert.QpReferenceIdeal.S8704x16x32, subf (mulf (low p) (every (Host.cos a))) (mulf (high p) (every (Host.sin a)))⟩,
    ⟨Cert.QpReferenceIdeal.S8704x16x32, addf (mulf (low p) (every (Host.sin a))) (mulf (high p) (every (Host.cos a)))⟩]
    Cert.QpReferenceIdeal.Gen.concatenates_S8704x16x32_S8704x16x32_S8704x16x64_d2

/-- The reference's array, from the queries `p`. -/
abbrev heads (p : FVec Ideal Cert.QpReferenceIdeal.S8704x16x192 .f32) (u : FVec Ideal S512x16x128 .f32) (pos : IVec S8704 32) : FVec Ideal S16x8704x640 .bf16 :=
  truncf .bf16 (transpose Cert.QpReferenceIdeal.S16x8704x640 [1, 0, 2]
    (pad Cert.QpReferenceIdeal.S8704x16x640 ![0, 0, 0] ![0, 0, 64] ![0, 0, 0]
      (concatenate Cert.QpReferenceIdeal.S8704x16x576 2 [⟨Cert.QpReferenceIdeal.S8704x16x512, absorbed p u⟩, ⟨Cert.QpReferenceIdeal.S8704x16x64, rotated p (angle pos)⟩]
        Cert.QpReferenceIdeal.Gen.concatenates_S8704x16x512_S8704x16x64_S8704x16x576_d2)
      (sitofp .f32 (constantI Cert.QpReferenceIdeal.S_ 32 0#32)) Cert.QpReferenceIdeal.Gen.pads_S8704x16x576_S8704x16x640_000_000_0640 Cert.QpReferenceIdeal.Gen.h_S_)
    Cert.QpReferenceIdeal.Gen.transposes_S8704x16x640_S16x8704x640_1_0_2) Cert.QpReferenceIdeal.Gen.bitsLt_bf16_f32

/-- Lane `d` of the query of row `a` in head `h`. -/
def col (q : FVec Ideal S8704x1024 .f32) (w : FVec Ideal S1024x16x192 .f32) (a : Fin 8704) (h : Fin 16) (d : Fin 192) : EReal :=
  ∑ k : Fin 1024, q (ix2 a k) * w (ix3 k h d)

/-- Rotary lane `j` of the query of row `a` in head `h`, zero past the 64 lanes. -/
def rcol (q : FVec Ideal S8704x1024 .f32) (w : FVec Ideal S1024x16x192 .f32) (a : Fin 8704) (h : Fin 16) (j : ℕ) : EReal :=
  if hj : j < 64 then col q w a h (⟨128 + j, by omega⟩ : Fin 192) else 0

/-- The angle of a position at frequency `i`. -/
def ang (p : BitVec 32) (i : ℕ) : EReal :=
  (FloatOps.sitofp .f32 p : Ideal .f32) * Ideal.pow (Ideal.ofBits .f32 0x461C4000#32)
    (Ideal.div (-(FloatOps.sitofp .f32 (BitVec.ofNat 32 i) : Ideal .f32)) (Ideal.ofBits .f32 0x42000000#32))

/-- Lane `x` of row `a` of head `h` of what both sides write. -/
def lane (q : FVec Ideal S8704x1024 .f32) (w : FVec Ideal S1024x16x192 .f32) (u : FVec Ideal S512x16x128 .f32) (pos : IVec S8704 32)
    (a : Fin 8704) (h : Fin 16) (x : ℕ) : EReal :=
  if hx : x < 512 then
    ∑ d : Fin 128, col q w a h (⟨d.val, by omega⟩ : Fin 192) * u (ix3 (⟨x, hx⟩ : Fin 512) h d)
  else if x < 544 then
    rcol q w a h (x - 512) * Ideal.cos (ang (pos (ix1 a)) (x - 512)) - rcol q w a h (x - 480) * Ideal.sin (ang (pos (ix1 a)) (x - 512))
  else if x < 576 then
    rcol q w a h (x - 544) * Ideal.sin (ang (pos (ix1 a)) (x - 544)) + rcol q w a h (x - 512) * Ideal.cos (ang (pos (ix1 a)) (x - 544))
  else 0

/-- A rotary lane is the plain product. -/
theorem rcol_eq (q : FVec Ideal S8704x1024 .f32) (w : FVec Ideal S1024x16x192 .f32) (a : Fin 8704) (h : Fin 16) (d : Fin 192) (j : ℕ)
    (hd : d.val = 128 + j) : ∑ k : Fin 1024, q (ix2 a k) * w (ix3 k h d) = rcol q w a h j := by
  have hj : j < 64 := by omega
  rw [show d = (⟨128 + j, by omega⟩ : Fin 192) from Fin.ext hd]
  simp only [rcol, hj, dif_pos, col]

/-- A lane past the 64 is zero. -/
theorem rcol_zero (q : FVec Ideal S8704x1024 .f32) (w : FVec Ideal S1024x16x192 .f32) (a : Fin 8704) (h : Fin 16) (j : ℕ)
    (hj : ¬ j < 64) : rcol q w a h j = 0 := by
  simp only [rcol, hj, dif_neg, not_false_eq_true]

/-- The integer zero that pads is the zero. -/
theorem pad_zero : (FloatOps.sitofp .f32 (0#32 : BitVec 32) : Ideal .f32) = (0 : EReal) := by
  show (((0#32 : BitVec 32).toInt : ℝ) : EReal) = 0
  simp

/-- The reference's array, lane by lane. -/
theorem heads_apply (q : FVec Ideal S8704x1024 .f32) (w : FVec Ideal S1024x16x192 .f32) (u : FVec Ideal S512x16x128 .f32) (pos : IVec S8704 32)
    (h : Fin 16) (a : Fin 8704) (x : Fin 640) : heads (query q w) u pos (ix3 h a x) = lane q w u pos a h x.val := by
  have hx := x.isLt
  pointwise [heads, query]
  rw [pad_zero]
  unfold lane
  by_cases h0 : x.val < 576
  · by_cases h1 : x.val < 512
    · simp only [h0, h1, dif_pos]
      exact Finset.sum_congr rfl fun d _ => mul_comm _ _
    · by_cases h2 : x.val < 544
      · have h3 : x.val - 512 < 32 := by omega
        simp only [h0, h1, h2, h3, dif_neg, dif_pos, if_pos, not_false_eq_true]
        rw [rcol_eq q w a h _ (x.val - 512) (by dsimp only), rcol_eq q w a h _ (x.val - 480) (by dsimp only; omega)]
        rfl
      · have h3 : ¬ x.val - 512 < 32 := by omega
        simp only [h0, h1, h2, h3, dif_neg, dif_pos, if_pos, if_neg, not_false_eq_true]
        rw [rcol_eq q w a h _ (x.val - 544) (by dsimp only; omega), rcol_eq q w a h _ (x.val - 512) (by dsimp only; omega)]
        rw [show x.val - 512 - 32 = x.val - 544 by omega]
        rfl
  · have h1 : ¬ x.val < 512 := by omega
    have h2 : ¬ x.val < 544 := by omega
    simp only [h0, h1, h2, dif_neg, if_neg, not_false_eq_true]

/-- The cosines' table. -/
theorem cos_apply (c : Dev nD) (a : Fin 8704) (x : Fin 128) : V m c main_v15 (ix2 a x)
    = if x.val < 32 then Ideal.cos (ang (m ((c : Thread nD τ).loc main_arg3) (ix1 a)) x.val)
      else if x.val < 64 then Ideal.cos (ang (m ((c : Thread nD τ).loc main_arg3) (ix1 a)) (x.val - 32))
      else 0 := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  after_results_simp
  pointwise
  have e : (x.val - 32 < 32) = (x.val < 64) := by simp only [eq_iff_iff]; omega
  simp only [e]
  rfl

/-- The sines' table, the first half with the sign of the rotation. -/
theorem sin_apply (c : Dev nD) (a : Fin 8704) (x : Fin 128) : V m c main_v19 (ix2 a x)
    = if x.val < 32 then -Ideal.sin (ang (m ((c : Thread nD τ).loc main_arg3) (ix1 a)) x.val)
      else if x.val < 64 then Ideal.sin (ang (m ((c : Thread nD τ).loc main_arg3) (ix1 a)) (x.val - 32))
      else 0 := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  after_results_simp
  pointwise
  have e : (x.val - 32 < 32) = (x.val < 64) := by simp only [eq_iff_iff]; omega
  simp only [e]
  rfl

/-- The weight of the lanes against the latent, its heads side by side. -/
theorem wn_apply (c : Dev nD) (k : Fin 1024) (z : Fin 2048) (h : Fin 16) (d : Fin 128) (hz : z.val = 128 * h.val + d.val) :
    V m c main_v22 (ix2 k z) = m ((c : Thread nD τ).loc main_arg1) (ix3 k h (⟨d.val, by omega⟩ : Fin 192)) := by
  simp only [V, hostOps0, hostOps0_1, hostOps0_2, List.flatten_cons, List.flatten_nil, List.append_nil, List.cons_append, List.nil_append]
  after_results
  pointwise
  have e0 : z.val / 128 = h.val := by omega
  have e1 : z.val % 128 = d.val := by omega
  simp only [e0, e1, Fin.eta]

/-- The weight of the rotary lanes, padded, its heads side by side. -/
theorem wr_apply (c : Dev nD) (k : Fin 1024) (z : Fin 2048) (h : Fin 16) (d : Fin 128) (hz : z.val = 128 * h.val + d.val) :
    V m c main_v26 (ix2 k z) = if hd : d.val < 64 then m ((c : Thread nD τ).loc main_arg1) (ix3 k h (⟨128 + d.val, by omega⟩ : Fin 192))
      else (0 : EReal) := by
  simp only [V, hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  pointwise
  have e0 : z.val / 128 = h.val := by omega
  have e1 : z.val % 128 = d.val := by omega
  simp only [e0, e1, Fin.eta, pad_zero, h.isLt, true_and]

/-- The weight that takes the lanes to the latent, head first. -/
theorem wuk_apply (c : Dev nD) (h : Fin 16) (d : Fin 128) (x : Fin 512) :
    V m c main_v28 (ix3 h d x) = m ((c : Thread nD τ).loc main_arg2) (ix3 x h d) := by
  simp only [V, hostOps0, hostOps0_1, hostOps0_2, List.flatten_cons, List.flatten_nil, List.append_nil, List.cons_append, List.nil_append]
  after_results
  pointwise

/-- The rows. -/
theorem input_apply (c : Dev nD) (a : Fin 8704) (k : Fin 1024) : V m c main_v29 (ix2 a k) = m ((c : Thread nD τ).loc main_arg0) (ix2 a k) := by
  simp only [V, hostOps0, hostOps0_1, hostOps0_2, List.flatten_cons, List.flatten_nil, List.append_nil, List.cons_append, List.nil_append]
  after_results
  pointwise

/-- Point `t` of the grid works on row block `t / 4` and on four heads from `4 * (t % 4)`. -/
theorem idx : ∀ t : Fin cfg0.N, win0_0.index t = ![t.val / 4, 0] ∧ win0_1.index t = ![0, t.val % 4] ∧ win0_2.index t = ![0, t.val % 4]
    ∧ win0_3.index t = ![t.val % 4, 0, 0] ∧ win0_4.index t = ![t.val / 4, 0] ∧ win0_5.index t = ![t.val / 4, 0]
    ∧ win0_6.index t = ![t.val % 4, t.val / 4, 0] :=
  (by decide +kernel : ∀ t : Fin grid0.N, _)

/-- The lanes from `o` of the product's rows `Q` against one head's weight `U`. -/
theorem latent_apply (Q : FVec Ideal S512x512 .bf16) (U : Vec Ideal S1x128x512 .bf16) (o : ℕ) (ho : o + 128 ≤ 512)
    (hs : S512x512.Slices ![0, o] S512x128) (r x : Fin 512) :
    shapeCast S1x512x512 (truncf .bf16 (matmul (F := Ideal) dot_S512x128_S128x512_S512x512_1_0_0_1_n_n none
      (extractStridedSlice S512x128 ![0, o] Q hs) (shapeCast S128x512 U Cert.QpIdeal.Gen.shapeCasts_S1x128x512_S128x512 : FVec Ideal S128x512 .bf16)
      (constant S512x512 .f32 0x00000000#32)) Cert.QpIdeal.Gen.bitsLt_bf16_f32) Cert.QpIdeal.Gen.shapeCasts_S512x512_S1x512x512 (ix3 (0 : Fin 1) r x)
    = ∑ d : Fin 128, Q (ix2 r (⟨o + d.val, by omega⟩ : Fin 512)) * U (ix3 (0 : Fin 1) d x) := by
  pointwise

/-- The lanes from `o` of the rows `P`, rotated by the tables `C` and `D`. -/
theorem rope_apply (P : FVec Ideal S512x512 .f32) (C D : FVec Ideal S512x128 .f32) (o : ℕ) (ho : o + 128 ≤ 512)
    (hs : S512x512.Slices ![0, o] S512x128) (r : Fin 512) (x : Fin 128) :
    shapeCast S1x512x128 (truncf .bf16 (addf (mulf (extractStridedSlice S512x128 ![0, o] P hs) C)
      (mulf (addf (dynamicRotate 1 96#32 none (extractStridedSlice S512x128 ![0, o] P hs) Cert.QpIdeal.Gen.rotates_S512x128_d1)
        (dynamicRotate 1 32#32 none (extractStridedSlice S512x128 ![0, o] P hs) Cert.QpIdeal.Gen.rotates_S512x128_d1)) D)) Cert.QpIdeal.Gen.bitsLt_bf16_f32)
      Cert.QpIdeal.Gen.shapeCasts_S512x128_S1x512x128 (ix3 (0 : Fin 1) r x)
    = P (ix2 r (⟨o + x.val, by omega⟩ : Fin 512)) * C (ix2 r x)
      + (P (ix2 r (⟨o + (x.val + 128 - 96) % 128, by omega⟩ : Fin 512)) + P (ix2 r (⟨o + (x.val + 128 - 32) % 128, by omega⟩ : Fin 512))) * D (ix2 r x) := by
  pointwise

/-- The first product at one row and lane. -/
theorem pay5_apply (B0 : Vec Ideal S512x1024 .bf16) (B1 : Vec Ideal S1024x512 .bf16) (r z : Fin 512) :
    k0_pay5 B0 B1 (ix2 r z) = ∑ k : Fin 1024, B0 (ix2 r k) * B1 (ix2 k z) := by
  pointwise [k0_pay5, k0_pay4]

/-- The second product at one row and lane. -/
theorem pay6_apply (B0 : Vec Ideal S512x1024 .bf16) (B2 : Vec Ideal S1024x512 .bf16) (r z : Fin 512) :
    k0_pay6 B0 B2 (ix2 r z) = ∑ k : Fin 1024, B0 (ix2 r k) * B2 (ix2 k z) := by
  pointwise [k0_pay6, k0_pay4]

/-- One head's second weight out of a block of four. -/
theorem ld_apply (B3 : Vec Ideal S4x128x512 .bf16) (n : ℕ) (inb : ∀ a, (![n, 0, 0] : Fin 3 → ℕ) a + (![1, 128, 512] : Fin 3 → ℕ) a ≤ S4x128x512.size a)
    (s : Fin 4) (hs : s.val = n) (d : Fin 128) (x : Fin 512) :
    View.ld B3 (Rect.unit (s := S4x128x512) ![n, 0, 0] ![1, 128, 512] inb) (ix3 (0 : Fin 1) d x) = B3 (ix3 s d x) :=
  View.ld_unit_apply_of B3 _ _ _ _ (ix3 s d x) fun a => match a with
    | ⟨0, _⟩ => hs
    | ⟨1, _⟩ => (Nat.zero_add d.val).symm
    | ⟨2, _⟩ => (Nat.zero_add x.val).symm

/-- What the body stores in the latent lanes, from blocks of the rows, of the first weight and of one head's second weight. -/
theorem latent_piece (q : FVec Ideal S8704x1024 .f32) (w : FVec Ideal S1024x16x192 .f32) (u : FVec Ideal S512x16x128 .f32) (pos : IVec S8704 32)
    (a : Fin 8704) (h : Fin 16) (B0 : Vec Ideal S512x1024 .bf16) (B1 : Vec Ideal S1024x512 .bf16) (U : Vec Ideal S1x128x512 .bf16) (r : Fin 512)
    (o : ℕ) (ho : o + 128 ≤ 512) (b0 : ∀ k : Fin 1024, B0 (ix2 r k) = q (ix2 a k))
    (b1 : ∀ (k : Fin 1024) (d : Fin 128) (z : Fin 512), z.val = o + d.val → B1 (ix2 k z) = w (ix3 k h (⟨d.val, by omega⟩ : Fin 192)))
    (b3 : ∀ (d : Fin 128) (x : Fin 512), U (ix3 (0 : Fin 1) d x) = u (ix3 x h d)) (x : Fin 512) :
    ∑ d : Fin 128, k0_pay5 B0 B1 (ix2 r (⟨o + d.val, by omega⟩ : Fin 512)) * U (ix3 (0 : Fin 1) d x) = lane q w u pos a h x.val := by
  simp only [lane, x.isLt, dif_pos, Fin.eta]
  refine Finset.sum_congr rfl fun d _ => ?_
  rw [b3, pay5_apply]
  refine congrArg (· * _) (Finset.sum_congr rfl fun k _ => ?_)
  rw [b0, b1 k d _ rfl]

/-- What the body stores in the rotary lanes, from blocks of the rows, of the weight and of the tables. -/
theorem rope_piece (q : FVec Ideal S8704x1024 .f32) (w : FVec Ideal S1024x16x192 .f32) (u : FVec Ideal S512x16x128 .f32) (pos : IVec S8704 32)
    (a : Fin 8704) (h : Fin 16) (B0 : Vec Ideal S512x1024 .bf16) (B2 : Vec Ideal S1024x512 .bf16) (B4 B5 : Vec Ideal S512x128 .f32) (r : Fin 512)
    (o : ℕ) (ho : o + 128 ≤ 512) (b0 : ∀ k : Fin 1024, B0 (ix2 r k) = q (ix2 a k))
    (b2 : ∀ (k : Fin 1024) (d : Fin 128) (z : Fin 512), z.val = o + d.val →
      B2 (ix2 k z) = if hd : d.val < 64 then w (ix3 k h (⟨128 + d.val, by omega⟩ : Fin 192)) else (0 : EReal))
    (b4 : ∀ x : Fin 128, B4 (ix2 r x) = if x.val < 32 then Ideal.cos (ang (pos (ix1 a)) x.val)
      else if x.val < 64 then Ideal.cos (ang (pos (ix1 a)) (x.val - 32)) else 0)
    (b5 : ∀ x : Fin 128, B5 (ix2 r x) = if x.val < 32 then -Ideal.sin (ang (pos (ix1 a)) x.val)
      else if x.val < 64 then Ideal.sin (ang (pos (ix1 a)) (x.val - 32)) else 0) (x : Fin 128) :
    k0_pay6 B0 B2 (ix2 r (⟨o + x.val, by omega⟩ : Fin 512)) * B4 (ix2 r x)
      + (k0_pay6 B0 B2 (ix2 r (⟨o + (x.val + 128 - 96) % 128, by omega⟩ : Fin 512))
        + k0_pay6 B0 B2 (ix2 r (⟨o + (x.val + 128 - 32) % 128, by omega⟩ : Fin 512))) * B5 (ix2 r x)
    = lane q w u pos a h (512 + x.val) := by
  have hx := x.isLt
  have e : ∀ (z : Fin 512) (j : ℕ), j < 128 → z.val = o + j → k0_pay6 B0 B2 (ix2 r z) = rcol q w a h j := by
    intro z j hj hz
    rw [pay6_apply]
    by_cases h6 : j < 64
    · rw [← rcol_eq q w a h (⟨128 + j, by omega⟩ : Fin 192) j rfl]
      refine Finset.sum_congr rfl fun k _ => ?_
      rw [b0, b2 k (⟨j, hj⟩ : Fin 128) z hz]
      simp only [h6, dif_pos]
    · rw [rcol_zero q w a h j h6]
      refine Finset.sum_eq_zero fun k _ => ?_
      rw [b2 k (⟨j, hj⟩ : Fin 128) z hz]
      simp only [h6, dif_neg, not_false_eq_true, mul_zero]
  rw [e _ x.val hx rfl, e _ _ (by omega) rfl, e _ _ (by omega) rfl, b4, b5]
  have h1 : ¬ 512 + x.val < 512 := by omega
  have g1 : (512 + x.val < 544) = (x.val < 32) := by simp only [eq_iff_iff]; omega
  have g2 : (512 + x.val < 576) = (x.val < 64) := by simp only [eq_iff_iff]; omega
  simp only [lane, h1, g1, g2, dif_neg, not_false_eq_true]
  rw [show 512 + x.val - 512 = x.val by omega, show 512 + x.val - 480 = x.val + 32 by omega, show 512 + x.val - 544 = x.val - 32 by omega]
  by_cases h2 : x.val < 32
  · rw [show (x.val + 128 - 96) % 128 = x.val + 32 by omega, show (x.val + 128 - 32) % 128 = x.val + 96 by omega,
      rcol_zero q w a h (x.val + 96) (by omega)]
    simp only [h2, if_pos, add_zero, mul_neg, sub_eq_add_neg]
  · by_cases h4 : x.val < 64
    · rw [show (x.val + 128 - 96) % 128 = x.val + 32 by omega, show (x.val + 128 - 32) % 128 = x.val - 32 by omega,
        rcol_zero q w a h (x.val + 32) (by omega)]
      simp only [h2, h4, if_pos, if_neg, not_false_eq_true, zero_add]
      rw [add_comm]
    · simp only [h2, h4, if_neg, not_false_eq_true, mul_zero, add_zero]

/-- What the body leaves at `y` of its output block, from its blocks. -/
theorem out_apply (q : FVec Ideal S8704x1024 .f32) (w : FVec Ideal S1024x16x192 .f32) (u : FVec Ideal S512x16x128 .f32) (pos : IVec S8704 32)
    (a : Fin 8704) (h : Fin 16) (c : Dev nD) (t : Fin cfg0.N)
    (B0 : Vec Ideal S512x1024 .bf16) (B1 B2 : Vec Ideal S1024x512 .bf16) (B3 : Vec Ideal S4x128x512 .bf16) (B4 B5 : Vec Ideal S512x128 .f32)
    (y : S4x512x640.Idx) (s : Fin 4) (r : Fin 512) (hs : (y 0).val = s.val) (hr : (y 1).val = r.val)
    (b0 : ∀ k : Fin 1024, B0 (ix2 r k) = q (ix2 a k))
    (b1 : ∀ (k : Fin 1024) (d : Fin 128) (z : Fin 512), z.val = 128 * s.val + d.val → B1 (ix2 k z) = w (ix3 k h (⟨d.val, by omega⟩ : Fin 192)))
    (b2 : ∀ (k : Fin 1024) (d : Fin 128) (z : Fin 512), z.val = 128 * s.val + d.val →
      B2 (ix2 k z) = if hd : d.val < 64 then w (ix3 k h (⟨128 + d.val, by omega⟩ : Fin 192)) else (0 : EReal))
    (b3 : ∀ (d : Fin 128) (x : Fin 512), B3 (ix3 s d x) = u (ix3 x h d))
    (b4 : ∀ x : Fin 128, B4 (ix2 r x) = if x.val < 32 then Ideal.cos (ang (pos (ix1 a)) x.val)
      else if x.val < 64 then Ideal.cos (ang (pos (ix1 a)) (x.val - 32)) else 0)
    (b5 : ∀ x : Fin 128, B5 (ix2 r x) = if x.val < 32 then -Ideal.sin (ang (pos (ix1 a)) x.val)
      else if x.val < 64 then Ideal.sin (ang (pos (ix1 a)) (x.val - 32)) else 0) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) B0 B1 B2 B3 B4 B5 y = lane q w u pos a h (y 2).val := by
  frame_out
  have c4 : ∀ x : Fin 128, k0_pay7 B4 (ix2 r x) = if x.val < 32 then Ideal.cos (ang (pos (ix1 a)) x.val)
      else if x.val < 64 then Ideal.cos (ang (pos (ix1 a)) (x.val - 32)) else 0 :=
    fun x => (show k0_pay7 B4 (ix2 r x) = B4 (ix2 r x) by pointwise [k0_pay7]).trans (b4 x)
  have c5 : ∀ x : Fin 128, k0_pay8 B5 (ix2 r x) = if x.val < 32 then -Ideal.sin (ang (pos (ix1 a)) x.val)
      else if x.val < 64 then Ideal.sin (ang (pos (ix1 a)) (x.val - 32)) else 0 :=
    fun x => (show k0_pay8 B5 (ix2 r x) = B5 (ix2 r x) by pointwise [k0_pay8]).trans (b5 x)
  canon_tiles x hy using View.cover_of_tiledBy _ ![1, 512, 128] (by sl_kernel_rfl) _
  all_goals idx_vars x
  all_goals obtain rfl : x0 = 0 := Subsingleton.elim _ _
  all_goals obtain rfl : x1 = r := Fin.ext (by omega)
  all_goals rw [hy2]
  all_goals first
    | exact (latent_apply (k0_pay5 B0 B1) _ _ (by omega) _ _ _).trans (latent_piece q w u pos a h B0 B1 _ _ _ (by omega) b0
        (fun k d z hz => b1 k d z (by simp only [Fin.val_zero] at hy0; omega)) (fun d z => (ld_apply B3 _ _ s (by simp only [Fin.val_zero] at hy0; omega) d z).trans (b3 d z)) x2)
    | exact (rope_apply (k0_pay6 B0 B2) (k0_pay7 B4) (k0_pay8 B5) _ (by omega) _ _ _).trans (rope_piece q w u pos a h B0 B2 _ _ _ _ (by omega) b0
        (fun k d z hz => b2 k d z (by simp only [Fin.val_zero] at hy0; omega)) c4 c5 x2)

set_option maxHeartbeats 1000000 in
/-- What the body leaves at `y` of its output block is the reference's value where the block puts `y`. -/
theorem point (c : Dev nD) (t : Fin cfg0.N) (y : S4x512x640.Idx) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (iblk m c 1 t) (iblk m c 2 t) (iblk m c 3 t) (iblk m c 4 t) (iblk m c 5 t) y
    = heads (query (m ((c : Thread nD τ).loc main_arg0)) (m ((c : Thread nD τ).loc main_arg1)))
      (m ((c : Thread nD τ).loc main_arg2)) (m ((c : Thread nD τ).loc main_arg3)) (((cfg0.win 6).blk t).view.emb y) := by
  have ht : t.val < 68 := lt_of_lt_of_eq t.isLt N_0
  have y0 : (y 0).val < 4 := (y 0).isLt
  have y1 : (y 1).val < 512 := (y 1).isLt
  have y2 : (y 2).val < 640 := (y 2).isLt
  obtain ⟨h, hh⟩ : ∃ h : Fin 16, h.val = 4 * (t.val % 4) + (y 0).val := ⟨⟨4 * (t.val % 4) + (y 0).val, by omega⟩, rfl⟩
  obtain ⟨a, ha⟩ : ∃ a : Fin 8704, a.val = 512 * (t.val / 4) + (y 1).val := ⟨⟨512 * (t.val / 4) + (y 1).val, by omega⟩, rfl⟩
  obtain ⟨s, hs⟩ : ∃ s : Fin 4, (y 0).val = s.val := ⟨⟨(y 0).val, y0⟩, rfl⟩
  obtain ⟨r, hr⟩ : ∃ r : Fin 512, (y 1).val = r.val := ⟨⟨(y 1).val, y1⟩, rfl⟩
  have he : ((cfg0.win 6).blk t).view.emb y = ix3 h a (⟨(y 2).val, y2⟩ : Fin 640) := by
    blk_ext [idx t]
  rw [he, heads_apply]
  refine out_apply _ _ _ _ a h c t _ _ _ _ _ _ y s r hs hr (fun k => ?_) (fun k d z hz => ?_) (fun k d z hz => ?_) (fun d x => ?_)
    (fun x => ?_) (fun x => ?_)
  · exact (show iblk m c 0 t (ix2 r k) = V m c main_v29 (ix2 a k) by blk_ext [iblk, idx t]).trans (input_apply m c a k)
  · have hz' : 512 * (t.val % 4) + z.val < 2048 := by omega
    exact (show iblk m c 1 t (ix2 k z) = V m c main_v22 (ix2 k (⟨512 * (t.val % 4) + z.val, hz'⟩ : Fin 2048)) by blk_ext [iblk, idx t]).trans
      (wn_apply m c k _ h d (by dsimp only; omega))
  · have hz' : 512 * (t.val % 4) + z.val < 2048 := by omega
    exact (show iblk m c 2 t (ix2 k z) = V m c main_v26 (ix2 k (⟨512 * (t.val % 4) + z.val, hz'⟩ : Fin 2048)) by blk_ext [iblk, idx t]).trans
      (wr_apply m c k _ h d (by dsimp only; omega))
  · exact (show iblk m c 3 t (ix3 s d x) = V m c main_v28 (ix3 h d x) by blk_ext [iblk, idx t]).trans (wuk_apply m c h d x)
  · exact (show iblk m c 4 t (ix2 r x) = V m c main_v15 (ix2 a x) by blk_ext [iblk, idx t]).trans (cos_apply m c a x)
  · exact (show iblk m c 5 t (ix2 r x) = V m c main_v19 (ix2 a x) by blk_ext [iblk, idx t]).trans (sin_apply m c a x)

/-- The array after the run is the reference's. -/
theorem final (c : Dev nD) : (dats m 0 c).arrAt 6 cfg0.N
    = heads (query (m ((c : Thread nD τ).loc main_arg0)) (m ((c : Thread nD τ).loc main_arg1)))
      (m ((c : Thread nD τ).loc main_arg2)) (m ((c : Thread nD τ).loc main_arg3)) := by
  refine (dats m 0 c).arrAt_eq_of_covers 6 _ (by decide +kernel) fun t _ y => ?_
  blk_simp
  rw [after0_6]
  exact point m c t y

/-- Call and reference leave the same array. -/
theorem algebraic [hI : Cert.QpIdeal.Facts] [hR : Cert.QpReferenceIdeal.Facts] :
    Cert.algebraic_QpIdeal_QpReferenceIdeal := fun m g m' g' _ h =>
  ⟨fun c => heads (query (m ((c : Thread nD τ).loc main_arg0)) (m ((c : Thread nD τ).loc main_arg1)))
      (m ((c : Thread nD τ).loc main_arg2)) (m ((c : Thread nD τ).loc main_arg3)),
    (θ_run _ _ _).mono (fun r hr c => ⟨(hr c).1.trans (final m c), (hr c).2⟩)
      (Cert.QpIdeal.Value.run_blocks m g),
    (θ_run _ _ _).mono (fun r hr c => ⟨(hr c).1.trans (by unfold Cert.QpReferenceIdeal.Value.res_main_v36; rw [(h c).1, (h c).2.1, (h c).2.2.1, (h c).2.2.2]),
        (hr c).2⟩)
      (Cert.QpReferenceIdeal.Value.run m' g')⟩

/-- The reference ends with its arguments unchanged and no counter left. -/
theorem frame_reference [hR : Cert.QpReferenceIdeal.Facts] : Cert.quiescent_QpReferenceIdeal := fun m g _ =>
  (θ_run _ _ _).mono (fun r h => ⟨fun c => (h c).2, sem_eq_zero_of_no_sems (by decide) r.2⟩)
    (Cert.QpReferenceIdeal.Value.run m g)

end Cert.QpEq

end
-- ==== Proof.UvEq.lean ====
/- The call of the sample tokens' value up-projection: the array it writes is the plain product, head by head. -/
module

public import proofs.«01_k».proof.Defs
public import proofs.«01_k».proof.Proof.Gen.UvIdeal.Value
public import proofs.«01_k».proof.Proof.Gen.UvReferenceIdeal.Run
public import Idealize.ShloMosaic.Lib.Pipeline.ValueKit

@[expose] public section

set_option maxRecDepth 16384

noncomputable section

namespace Cert.UvEq

open Idealize.ShloMosaic Idealize.ShloMosaic.TcCoe Idealize.SL.Sem
open Idealize.ShloMosaic.Pipeline (Dat)
open Cert.UvIdeal Cert.UvIdeal.Gen

variable (m : (ℓ : Loc nD τ sig) → Buf (Elt Ideal) ℓ)

/-- The reference's values: the latent rows `l` times the weight `w`, head by head. -/
abbrev values (l : FVec Ideal S512x16x512 .f32) (w : FVec Ideal S512x16x128 .f32) : FVec Ideal S512x2048 .bf16 :=
  truncf .bf16 (shapeCast Cert.UvReferenceIdeal.S512x2048 (transpose Cert.UvReferenceIdeal.S512x16x128 [2, 0, 1]
    (Host.dotGeneral Cert.UvReferenceIdeal.dot_S512x16x128_S512x16x512_S16x128x512_0_2_2_0_1_1 none w l)
    Cert.UvReferenceIdeal.Gen.transposes_S16x128x512_S512x16x128_2_0_1) Cert.UvReferenceIdeal.Gen.shapeCasts_S512x16x128_S512x2048)
    Cert.UvReferenceIdeal.Gen.bitsLt_bf16_f32

/-- The latent rows, head first. -/
theorem lat_apply (c : Dev nD) (h : Fin 16) (a k : Fin 512) :
    V m c main_v1 (ix3 h a k) = m ((c : Thread nD τ).loc main_arg0) (ix3 a h k) := by
  simp only [V, hostOps0, List.flatten_cons, List.flatten_nil, List.append_nil, List.cons_append, List.nil_append]
  after_results
  pointwise

/-- The weight, head first. -/
theorem weight_apply (c : Dev nD) (h : Fin 16) (k : Fin 512) (d : Fin 128) :
    V m c main_v3 (ix3 h k d) = m ((c : Thread nD τ).loc main_arg1) (ix3 k h d) := by
  simp only [V, hostOps0, List.flatten_cons, List.flatten_nil, List.append_nil, List.cons_append, List.nil_append]
  after_results
  pointwise

/-- Point `t` of the grid works on head `t`. -/
theorem idx : ∀ t : Fin cfg0.N, win0_0.index t = ![t.val, 0, 0] ∧ win0_1.index t = ![t.val, 0, 0] ∧ win0_2.index t = ![0, t.val] :=
  (by decide +kernel : ∀ t : Fin grid0.N, _)

/-- What the body stores in row `a` and lane `d`. -/
theorem pay_apply (B0 : Vec Ideal S1x512x512 .bf16) (B1 : Vec Ideal S1x512x128 .bf16) (a : Fin 512) (d : Fin 128) :
    k0_pay1 B0 B1 (ix2 a d) = ∑ k : Fin 512, B0 (ix3 (0 : Fin 1) a k) * B1 (ix3 (0 : Fin 1) k d) := by
  pointwise [k0_pay1]

/-- The reference's value of row `a` in lane `d` of head `h`. -/
theorem values_apply (l : FVec Ideal S512x16x512 .f32) (w : FVec Ideal S512x16x128 .f32) (a : Fin 512) (z : Fin 2048) (h : Fin 16) (d : Fin 128)
    (hz : z.val = 128 * h.val + d.val) : values l w (ix2 a z) = ∑ k : Fin 512, l (ix3 a h k) * w (ix3 k h d) := by
  have e0 : z.val / 128 = h.val := by omega
  have e1 : z.val % 128 = d.val := by omega
  pointwise [values]
  simp only [e0, e1, Fin.eta]
  exact Finset.sum_congr rfl fun k _ => mul_comm _ _

/-- What the body stores at `y` in its block is the reference's value where the block puts `y`. -/
theorem point (c : Dev nD) (t : Fin cfg0.N) (y : S512x128.Idx) : k0_pay1 (iblk m c 0 t) (iblk m c 1 t) y
    = values (m ((c : Thread nD τ).loc main_arg0)) (m ((c : Thread nD τ).loc main_arg1)) (((cfg0.win 2).blk t).view.emb y) := by
  have ht : t.val < 16 := lt_of_lt_of_eq t.isLt N_0
  obtain ⟨a, d, rfl⟩ : ∃ (a : Fin 512) (d : Fin 128), y = ix2 a d := ⟨y 0, y 1, by
    funext i
    match i with | ⟨0, _⟩ => rfl | ⟨1, _⟩ => rfl⟩
  have he : ((cfg0.win 2).blk t).view.emb (ix2 a d) = ix2 a (⟨128 * t.val + d.val, by omega⟩ : Fin 2048) := by
    blk_ext [idx t]
  rw [he, values_apply _ _ _ _ (⟨t.val, ht⟩ : Fin 16) d rfl]
  refine (pay_apply _ _ _ _).trans (Finset.sum_congr rfl fun k _ => congrArg₂ (· * ·) ?_ ?_)
  · exact (show iblk m c 0 t (ix3 (0 : Fin 1) a k) = V m c main_v1 (ix3 (⟨t.val, ht⟩ : Fin 16) a k) by blk_ext [iblk, idx t]).trans (lat_apply m c _ a k)
  · exact (show iblk m c 1 t (ix3 (0 : Fin 1) k d) = V m c main_v3 (ix3 (⟨t.val, ht⟩ : Fin 16) k d) by blk_ext [iblk, idx t]).trans (weight_apply m c _ k d)

/-- The array after the run is the reference's. -/
theorem final (c : Dev nD) : (dats m 0 c).arrAt 2 cfg0.N
    = values (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

/-- Call and reference leave the same array. -/
theorem algebraic [hI : Cert.UvIdeal.Facts] [hR : Cert.UvReferenceIdeal.Facts] :
    Cert.algebraic_UvIdeal_UvReferenceIdeal := fun m g m' g' _ h =>
  ⟨fun c => values (m ((c : Thread nD τ).loc main_arg0)) (m ((c : Thread nD τ).loc main_arg1)),
    (θ_run _ _ _).mono (fun r hr c => ⟨(hr c).1.trans (final m c), (hr c).2⟩) (Cert.UvIdeal.Value.run_blocks m g),
    (θ_run _ _ _).mono (fun r hr c => ⟨(hr c).1.trans (by rw [(h c).1, (h c).2]), (hr c).2⟩)
      (Cert.UvReferenceIdeal.Value.run m' g')⟩

/-- The reference ends with its arguments unchanged and no counter left. -/
theorem frame_reference [hR : Cert.UvReferenceIdeal.Facts] : Cert.quiescent_UvReferenceIdeal := fun m g _ =>
  (θ_run _ _ _).mono (fun r h => ⟨fun c => (h c).2, sem_eq_zero_of_no_sems (by decide) r.2⟩)
    (Cert.UvReferenceIdeal.Value.run m g)

end Cert.UvEq

end
-- ==== Proof.KmEq.lean ====
/- The call of the key blocks' means: the array it writes is the mean of every block, with rows of zeros after them. -/
module

public import proofs.«01_k».proof.Defs
public import proofs.«01_k».proof.Proof.Gen.KmIdeal.Value
public import proofs.«01_k».proof.Proof.Gen.KmReferenceIdeal.Run
public import Idealize.ShloMosaic.Lib.Pipeline.ValueKit

@[expose] public section

set_option maxRecDepth 16384

noncomputable section

namespace Cert.KmEq

open Idealize.ShloMosaic Idealize.ShloMosaic.TcCoe Idealize.SL.Sem
open Idealize.ShloMosaic.Pipeline (Dat)
open Cert.KmIdeal Cert.KmIdeal.Gen

variable (m : (ℓ : Loc nD τ sig) → Buf (Elt Ideal) ℓ)

/-- The reference's means of the key blocks of the rows `r`, in 128 rows for every sequence. -/
abbrev means (r : FVec Ideal S8704x512 .f32) : FVec Ideal S512x256 .f32 :=
  shapeCast Cert.KmReferenceIdeal.S512x256 (pad Cert.KmReferenceIdeal.S4x128x256 ![0, 0, 0] ![0, 120, 0] ![0, 0, 0]
    (Host.divf (Host.reduceAdd (shapeCast Cert.KmReferenceIdeal.S4x8x256x256
        (extractStridedSlice Cert.KmReferenceIdeal.S8192x256 ![0, 0] r Cert.KmReferenceIdeal.Gen.slices_S8704x512_S8192x256_0_0)
        Cert.KmReferenceIdeal.Gen.shapeCasts_S8192x256_S4x8x256x256) (constant (F := Ideal) Cert.KmReferenceIdeal.S_ .f32 0x00000000#32)
      Cert.KmReferenceIdeal.Gen.reducesTo_S4x8x256x256_S4x8x256_d2 Cert.KmReferenceIdeal.Gen.h_S_)
      (broadcastInDim Cert.KmReferenceIdeal.S4x8x256 ![] Cert.KmReferenceIdeal.Gen.bcast_S_S4x8x256 (constant (F := Ideal) Cert.KmReferenceIdeal.S_ .f32 0x43800000#32)))
    (sitofp .f32 (constantI Cert.KmReferenceIdeal.S_ 32 0#32)) Cert.KmReferenceIdeal.Gen.pads_S4x8x256_S4x128x256_000_01200_000
    Cert.KmReferenceIdeal.Gen.h_S_) Cert.KmReferenceIdeal.Gen.shapeCasts_S4x128x256_S512x256

/-- Point `t` of the grid works on sequence `t`. -/
theorem idx : ∀ t : Fin cfg0.N, win0_0.index t = ![t.val, 0] ∧ win0_1.index t = ![t.val, 0] :=
  (by decide +kernel : ∀ t : Fin grid0.N, _)

/-- The whole number zero read as a real. -/
theorem pad_zero : (FloatOps.sitofp .f32 (0#32 : BitVec 32) : Ideal .f32) = (0 : EReal) := by
  show (((0#32 : BitVec 32).toInt : ℝ) : EReal) = 0
  simp

/-- Dividing by 256 and multiplying by its inverse are one thing. -/
theorem div_block (x : EReal) : Ideal.div x (Ideal.ofBits .f32 0x43800000#32) = x * Ideal.ofBits .f32 0x3B800000#32 := by
  have e : Ideal.ofBits .f32 0x43800000#32 = ((256 : ℝ) : EReal) := by
    simp [Ideal.ofBits, Ideal.ieee]
    rw [← EReal.coe_mul]
    norm_num
  have f : Ideal.ofBits .f32 0x3B800000#32 = ((1 / 256 : ℝ) : EReal) := by
    simp [Ideal.ofBits, Ideal.ieee]
    rw [← EReal.coe_mul]
    norm_num
  rw [e, f, Ideal.div_coe (by norm_num)]

/-- The reference's mean of block `b` of sequence `n`, or zero after the last block. -/
theorem means_apply (r : FVec Ideal S8704x512 .f32) (z : Fin 512) (d : Fin 256) (n : Fin 4) (b : Fin 128) (hz : z.val = 128 * n.val + b.val) :
    means r (ix2 z d) = if hb : b.val < 8 then
      (∑ k : Fin 256, r (ix2 (⟨2048 * n.val + (256 * b.val + k.val), by omega⟩ : Fin 8704) (⟨d.val, by omega⟩ : Fin 512))) * Ideal.ofBits .f32 0x3B800000#32
      else (0 : EReal) := by
  have e0 : z.val / 128 = n.val := by omega
  have e1 : z.val % 128 = b.val := by omega
  pointwise [means]
  simp only [pad_zero, e0, e1, n.isLt, true_and, div_block]
  split_ifs with hb
  · refine congrArg (· * _) (Finset.sum_congr rfl fun k _ => congrArg r (congrArg (fun i => ix2 i _) (Fin.ext ?_)))
    show n.val * 2048 + b.val * 256 + k.val = 2048 * n.val + (256 * b.val + k.val)
    omega
  · rfl

/-- The mean of block `b` that the body computes. -/
theorem pay_apply (B : Vec Ideal S2048x256 .f32) (b : Fin 8) (d : Fin 256) :
    k0_pay1 B (ix2 b d) = (∑ k : Fin 256, B (ix2 (⟨256 * b.val + k.val, by omega⟩ : Fin 2048) d)) * Ideal.ofBits .f32 0x3B800000#32 := by
  pointwise [k0_pay1]
  refine congrArg (· * _) (Finset.sum_congr rfl fun k _ => congrArg B (congrArg (fun i => ix2 i _) (Fin.ext ?_)))
  show b.val * 256 + k.val = 256 * b.val + k.val
  omega

/-- The two stores of the body: first `Q` over the whole block, then `P` over its first eight rows. -/
abbrev stores (P : Vec Ideal S8x256 .f32) (Q : Vec Ideal S128x256 .f32) : List (View.Piece (Elt Ideal) S128x256 .f32) :=
  [⟨Rect.unit ![0, 0] ![8, 256] inb_S128x256_S8x256_0_0, P⟩, ⟨Rect.unit ![0, 0] ![128, 256] inb_S128x256_S128x256_0_0, Q⟩]

/-- The first eight rows hold the later store. -/
theorem stores_low (P : Vec Ideal S8x256 .f32) (Q : Vec Ideal S128x256 .f32) (b : Fin 128) (d : Fin 256) (hb : b.val < 8) :
    View.canon (stores P Q) (ix2 b d) = P (ix2 (⟨b.val, hb⟩ : Fin 8) d) := by
  have e : (ix2 b d : S128x256.Idx) = (Rect.unit (s := S128x256) ![0, 0] ![8, 256] inb_S128x256_S8x256_0_0).emb (ix2 (⟨b.val, hb⟩ : Fin 8) d) := by
    blk_ext
  exact (congrArg (View.canon (stores P Q)) e).trans (View.canon_cons_emb (Val := Elt Ideal) (e := .f32)
    (Rect.unit (s := S128x256) ![0, 0] ![8, 256] inb_S128x256_S8x256_0_0) P _ (ix2 (⟨b.val, hb⟩ : Fin 8) d))

/-- The rows after them hold the earlier one. -/
theorem stores_high (P : Vec Ideal S8x256 .f32) (Q : Vec Ideal S128x256 .f32) (b : Fin 128) (d : Fin 256) (hb : ¬ b.val < 8) :
    View.canon (stores P Q) (ix2 b d) = Q (ix2 b d) := by
  refine (View.canon_cons_of_not_mem _ _ ?_).trans ?_
  · intro hm
    obtain ⟨i, hi, he⟩ := (LoadRect.mem_set _).mp hm (0 : Fin 2)
    have hi1 : i < 8 := hi
    have he' : b.val = 0 + 1 * i := he
    omega
  · have e : (ix2 b d : S128x256.Idx) = (Rect.unit (s := S128x256) ![0, 0] ![128, 256] inb_S128x256_S128x256_0_0).emb (ix2 b d) := by
      blk_ext
    exact (congrArg (View.canon _) e).trans (View.canon_cons_emb (Val := Elt Ideal) (e := .f32)
      (Rect.unit (s := S128x256) ![0, 0] ![128, 256] inb_S128x256_S128x256_0_0) Q _ (ix2 b d))

/-- The input block of point `t` is the key half of the rows of sequence `t`. -/
theorem key_apply (c : Dev nD) (t : Fin cfg0.N) (ht : t.val < 4) (k : Fin 2048) (d : Fin 256) :
    X0_0 m c t (ix2 k d) = m ((c : Thread nD τ).loc main_arg0) (ix2 (⟨2048 * t.val + k.val, by omega⟩ : Fin 8704) (⟨d.val, by omega⟩ : Fin 512)) := by
  unfold X0_0 Pipeline.Window.fill
  rw [dif_pos (moved0_0 t _)]
  blk_point [iblk, V, idx t]

/-- What the body leaves at `y` of its block is the reference's value where the block puts `y`. -/
theorem point (c : Dev nD) (t : Fin cfg0.N) (y : S128x256.Idx) : View.canon (stores (k0_pay1 (X0_0 m c t)) (k0_pay2 (F := Ideal))) y
    = means (m ((c : Thread nD τ).loc main_arg0)) (((cfg0.win 1).blk t).view.emb y) := by
  have ht : t.val < 4 := lt_of_lt_of_eq t.isLt N_0
  obtain ⟨b, d, rfl⟩ : ∃ (b : Fin 128) (d : Fin 256), y = ix2 b d := ⟨y 0, y 1, by
    funext i
    match i with | ⟨0, _⟩ => rfl | ⟨1, _⟩ => rfl⟩
  have he : ((cfg0.win 1).blk t).view.emb (ix2 b d) = ix2 (⟨128 * t.val + b.val, by omega⟩ : Fin 512) d := by
    blk_ext [idx t]
  rw [he, means_apply _ _ _ (⟨t.val, ht⟩ : Fin 4) b rfl]
  split_ifs with hb
  · rw [stores_low _ _ _ _ hb, pay_apply]
    exact congrArg (· * _) (Finset.sum_congr rfl fun k _ => key_apply m c t ht _ d)
  · rw [stores_high _ _ _ _ hb]
    pointwise [k0_pay2]

/-- The array after the run is the reference's. -/
theorem final (c : Dev nD) : (dats m 0 c).arrAt 1 cfg0.N = means (m ((c : Thread nD τ).loc main_arg0)) := by
  refine (dats m 0 c).arrAt_eq_of_covers 1 _ (by decide +kernel) fun t _ y => ?_
  blk_simp
  rw [after0_1]
  unfold outsAt0
  frame_out
  exact point m c t y

/-- Call and reference leave the same array. -/
theorem algebraic [hI : Cert.KmIdeal.Facts] [hR : Cert.KmReferenceIdeal.Facts] :
    Cert.algebraic_KmIdeal_KmReferenceIdeal := fun m g m' g' _ h =>
  ⟨fun c => means (m ((c : Thread nD τ).loc main_arg0)),
    (θ_run _ _ _).mono (fun r hr c => ⟨(hr c).1.trans (final m c), (hr c).2⟩) (Cert.KmIdeal.Value.run_blocks m g),
    (θ_run _ _ _).mono (fun r hr c => ⟨(hr c).1.trans (by rw [h c]), (hr c).2⟩)
      (Cert.KmReferenceIdeal.Value.run m' g')⟩

/-- The reference ends with its arguments unchanged and no counter left. -/
theorem frame_reference [hR : Cert.KmReferenceIdeal.Facts] : Cert.quiescent_KmReferenceIdeal := fun m g _ =>
  (θ_run _ _ _).mono (fun r h => ⟨fun c => (h c).2, sem_eq_zero_of_no_sems (by decide) r.2⟩)
    (Cert.KmReferenceIdeal.Value.run m g)

end Cert.KmEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Qb
public import proofs.«01_k».proof.Proof.Gen.Qb.Skeleton
public import proofs.«01_k».proof.Proof.Gen.Qb.Launch
public import proofs.«01_k».proof.Proof.Gen.Qb.Points
public import proofs.«01_k».proof.Proof.Gen.Qb.Frame
public import proofs.«01_k».proof.Proof.Gen.QbIdeal
public import proofs.«01_k».proof.Proof.Gen.QbIdeal.Skeleton
public import proofs.«01_k».proof.Proof.Gen.QbIdeal.Launch
public import proofs.«01_k».proof.Proof.Gen.QbIdeal.Points
public import proofs.«01_k».proof.Proof.Gen.QbIdeal.Frame
public import proofs.«01_k».proof.Proof.Gen.QbReferenceIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvReferenceIdeal
public import proofs.«01_k».proof.Proof.Gen.Cq
public import proofs.«01_k».proof.Proof.Gen.Cq.Skeleton
public import proofs.«01_k».proof.Proof.Gen.Cq.Launch
public import proofs.«01_k».proof.Proof.Gen.Cq.Points
public import proofs.«01_k».proof.Proof.Gen.Cq.Frame
public import proofs.«01_k».proof.Proof.Gen.CqIdeal
public import proofs.«01_k».proof.Proof.Gen.CqIdeal.Skeleton
public import proofs.«01_k».proof.Proof.Gen.CqIdeal.Launch
public import proofs.«01_k».proof.Proof.Gen.CqIdeal.Points
public import proofs.«01_k».proof.Proof.Gen.CqIdeal.Frame
public import proofs.«01_k».proof.Proof.Gen.CqReferenceIdeal
public import proofs.«01_k».proof.Proof.Gen.Ckr
public import proofs.«01_k».proof.Proof.Gen.Ckr.Skeleton
public import proofs.«01_k».proof.Proof.Gen.Ckr.Launch
public import proofs.«01_k».proof.Proof.Gen.Ckr.Points
public import proofs.«01_k».proof.Proof.Gen.Ckr.Frame
public import proofs.«01_k».proof.Proof.Gen.CkrIdeal
public import proofs.«01_k».proof.Proof.Gen.CkrIdeal.Skeleton
public import proofs.«01_k».proof.Proof.Gen.CkrIdeal.Launch
public import proofs.«01_k».proof.Proof.Gen.CkrIdeal.Points
public import proofs.«01_k».proof.Proof.Gen.CkrIdeal.Frame
public import proofs.«01_k».proof.Proof.Gen.CkrReferenceIdeal
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPReferenceIdeal
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSReferenceIdeal
public import proofs.«01_k».proof.Proof.Gen.Qp
public import proofs.«01_k».proof.Proof.Gen.Qp.Skeleton
public import proofs.«01_k».proof.Proof.Gen.Qp.Launch
public import proofs.«01_k».proof.Proof.Gen.Qp.Points
public import proofs.«01_k».proof.Proof.Gen.Qp.Frame
public import proofs.«01_k».proof.Proof.Gen.QpIdeal
public import proofs.«01_k».proof.Proof.Gen.QpIdeal.Skeleton
public import proofs.«01_k».proof.Proof.Gen.QpIdeal.Launch
public import proofs.«01_k».proof.Proof.Gen.QpIdeal.Points
public import proofs.«01_k».proof.Proof.Gen.QpIdeal.Frame
public import proofs.«01_k».proof.Proof.Gen.QpReferenceIdeal
public import proofs.«01_k».proof.Proof.Gen.Uv
public import proofs.«01_k».proof.Proof.Gen.Uv.Skeleton
public import proofs.«01_k».proof.Proof.Gen.Uv.Launch
public import proofs.«01_k».proof.Proof.Gen.Uv.Points
public import proofs.«01_k».proof.Proof.Gen.Uv.Frame
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvReferenceIdeal
public import proofs.«01_k».proof.Proof.Gen.Km
public import proofs.«01_k».proof.Proof.Gen.Km.Skeleton
public import proofs.«01_k».proof.Proof.Gen.Km.Launch
public import proofs.«01_k».proof.Proof.Gen.Km.Points
public import proofs.«01_k».proof.Proof.Gen.Km.Frame
public import proofs.«01_k».proof.Proof.Gen.KmIdeal
public import proofs.«01_k».proof.Proof.Gen.KmIdeal.Skeleton
public import proofs.«01_k».proof.Proof.Gen.KmIdeal.Launch
public import proofs.«01_k».proof.Proof.Gen.KmIdeal.Points
public import proofs.«01_k».proof.Proof.Gen.KmIdeal.Frame
public import proofs.«01_k».proof.Proof.Gen.KmReferenceIdeal
public import proofs.«01_k».proof.Proof.Gen.Pre_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.NormIdeal.Value
public import proofs.«01_k».proof.Proof.Gen.GatesIdeal.Value
public import proofs.«01_k».proof.Proof.Gen.MergeIdeal.Value
public import proofs.«01_k».proof.Proof.Gen.OutProjIdeal.Value
public import proofs.«01_k».proof.Proof.Gen.QbIdeal.Value
public import proofs.«01_k».proof.Proof.Gen.KvIdeal.Value
public import proofs.«01_k».proof.Proof.Gen.CqIdeal.Value
public import proofs.«01_k».proof.Proof.Gen.CkrIdeal.Value
public import proofs.«01_k».proof.Proof.Gen.FinalPIdeal.Value
public import proofs.«01_k».proof.Proof.Gen.FinalSIdeal.Value
public import proofs.«01_k».proof.Proof.Gen.QpIdeal.Value
public import proofs.«01_k».proof.Proof.Gen.UvIdeal.Value
public import proofs.«01_k».proof.Proof.Gen.KmIdeal.Value
public import proofs.«01_k».proof.Proof.Gen.NormReferenceIdeal.Run
public import proofs.«01_k».proof.Proof.Gen.GatesReferenceIdeal.Run
public import proofs.«01_k».proof.Proof.Gen.MergeReferenceIdeal.Run
public import proofs.«01_k».proof.Proof.Gen.OutProjReferenceIdeal.Run
public import proofs.«01_k».proof.Proof.Gen.QbReferenceIdeal.Run
public import proofs.«01_k».proof.Proof.Gen.KvReferenceIdeal.Run
public import proofs.«01_k».proof.Proof.Gen.CqReferenceIdeal.Run
public import proofs.«01_k».proof.Proof.Gen.CkrReferenceIdeal.Run
public import proofs.«01_k».proof.Proof.Gen.FinalPReferenceIdeal.Run
public import proofs.«01_k».proof.Proof.Gen.FinalSReferenceIdeal.Run
public import proofs.«01_k».proof.Proof.Gen.QpReferenceIdeal.Run
public import proofs.«01_k».proof.Proof.Gen.UvReferenceIdeal.Run
public import proofs.«01_k».proof.Proof.Gen.KmReferenceIdeal.Run
public import Idealize.ShloMosaic.Lib.Claim
public import proofs.«01_k».proof.Proof.Finite
public import proofs.«01_k».proof.Proof.Equal
public import proofs.«01_k».proof.Proof.NormEq
public import proofs.«01_k».proof.Proof.GatesEq
public import proofs.«01_k».proof.Proof.MergeEq
public import proofs.«01_k».proof.Proof.OutProjEq
public import proofs.«01_k».proof.Proof.QbEq
public import proofs.«01_k».proof.Proof.KvEq
public import proofs.«01_k».proof.Proof.CqEq
public import proofs.«01_k».proof.Proof.CkrEq
public import proofs.«01_k».proof.Proof.FinalPEq
public import proofs.«01_k».proof.Proof.FinalSEq
public import proofs.«01_k».proof.Proof.QpEq
public import proofs.«01_k».proof.Proof.UvEq
public import proofs.«01_k».proof.Proof.KmEq

@[expose] public section

noncomputable section

namespace Cert.Proof

open Idealize.ShloMosaic Idealize.SL.Sem Cert.Kernel

/-- Over the reals, on finite arguments, the kernel and the reference end with one array. -/
theorem algebraic [hK : Cert.KernelIdeal.Facts] [hR : Cert.ReferenceIdeal.Facts] [hP : Cert.Pre_finite.Facts] :
    Cert.algebraic_KernelIdeal_ReferenceIdeal_pre_finite := by
  intro m g m' g' hpre hargs
  have hfin := fun c => Cert.Finite.reals _ _ _ _ ix0 (congrFun (hpre c) ix0)
  refine ⟨fun c => (Cert.KernelIdeal.Gen.dats m 0 c).arrAt 3 Cert.KernelIdeal.cfg0.N, ?_, ?_⟩
  · exact Cert.KernelIdeal.Value.run_blocks m g
  · refine (θ_run _ _ _).mono (fun r h c => ?_) (Cert.ReferenceIdeal.Value.run m' g')
    refine ⟨(h c).1.trans ?_, (h c).2⟩
    obtain ⟨e0, e1, e2, e3⟩ := hargs c
    obtain ⟨H0, H1, H2, -⟩ := hfin c
    rw [Cert.Ref.res_eq, e0, e1, e2, e3]
    exact (Cert.Equal.array_eq m c H0 H1 H2).symm

/-- The reference leaves its arguments as they were; it declares no semaphore, so every counter is zero. -/
theorem frame_reference [hR : Cert.ReferenceIdeal.Facts] : Cert.quiescent_ReferenceIdeal := fun m g _ =>
  (θ_run _ _ _).mono (fun r h => ⟨fun c => (h c).2, sem_eq_zero_of_no_sems (by decide) r.2⟩)
    (Cert.ReferenceIdeal.Value.run m g)

/-- All the claims together. -/
theorem claim : Cert.Claim :=
  ⟨Cert.Kernel.Gen.facts, Cert.KernelIdeal.Gen.facts, Cert.ReferenceIdeal.Gen.facts, Cert.Norm.Gen.facts,
    Cert.NormIdeal.Gen.facts, Cert.NormReferenceIdeal.Gen.facts, Cert.Gates.Gen.facts, Cert.GatesIdeal.Gen.facts,
    Cert.GatesReferenceIdeal.Gen.facts, Cert.Merge.Gen.facts, Cert.MergeIdeal.Gen.facts,
    Cert.MergeReferenceIdeal.Gen.facts, Cert.OutProj.Gen.facts, Cert.OutProjIdeal.Gen.facts,
    Cert.OutProjReferenceIdeal.Gen.facts, Cert.Qb.Gen.facts, Cert.QbIdeal.Gen.facts,
    Cert.QbReferenceIdeal.Gen.facts, Cert.Kv.Gen.facts, Cert.KvIdeal.Gen.facts, Cert.KvReferenceIdeal.Gen.facts,
    Cert.Cq.Gen.facts, Cert.CqIdeal.Gen.facts, Cert.CqReferenceIdeal.Gen.facts, Cert.Ckr.Gen.facts,
    Cert.CkrIdeal.Gen.facts, Cert.CkrReferenceIdeal.Gen.facts, Cert.FinalP.Gen.facts, Cert.FinalPIdeal.Gen.facts,
    Cert.FinalPReferenceIdeal.Gen.facts, Cert.FinalS.Gen.facts, Cert.FinalSIdeal.Gen.facts,
    Cert.FinalSReferenceIdeal.Gen.facts, Cert.Qp.Gen.facts, Cert.QpIdeal.Gen.facts,
    Cert.QpReferenceIdeal.Gen.facts,
    Cert.Uv.Gen.facts, Cert.UvIdeal.Gen.facts, Cert.UvReferenceIdeal.Gen.facts,
    Cert.Km.Gen.facts, Cert.KmIdeal.Gen.facts, Cert.KmReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Norm.Gen.frame m ρ, fun m ρ _ => Cert.NormIdeal.Gen.frame m ρ, Cert.NormEq.frame_reference,
    fun m ρ _ => Cert.Gates.Gen.frame m ρ, fun m ρ _ => Cert.GatesIdeal.Gen.frame m ρ, Cert.GatesEq.frame_reference,
    fun m ρ _ => Cert.Merge.Gen.frame m ρ, fun m ρ _ => Cert.MergeIdeal.Gen.frame m ρ, Cert.MergeEq.frame_reference,
    fun m ρ _ => Cert.OutProj.Gen.frame m ρ, fun m ρ _ => Cert.OutProjIdeal.Gen.frame m ρ, Cert.OutProjEq.frame_reference,
    fun m ρ _ => Cert.Qb.Gen.frame m ρ, fun m ρ _ => Cert.QbIdeal.Gen.frame m ρ, Cert.QbEq.frame_reference,
    fun m ρ _ => Cert.Kv.Gen.frame m ρ, fun m ρ _ => Cert.KvIdeal.Gen.frame m ρ, Cert.KvEq.frame_reference,
    fun m ρ _ => Cert.Cq.Gen.frame m ρ, fun m ρ _ => Cert.CqIdeal.Gen.frame m ρ, Cert.CqEq.frame_reference,
    fun m ρ _ => Cert.Ckr.Gen.frame m ρ, fun m ρ _ => Cert.CkrIdeal.Gen.frame m ρ, Cert.CkrEq.frame_reference,
    fun m ρ _ => Cert.FinalP.Gen.frame m ρ, fun m ρ _ => Cert.FinalPIdeal.Gen.frame m ρ, Cert.FinalPEq.frame_reference,
    fun m ρ _ => Cert.FinalS.Gen.frame m ρ, fun m ρ _ => Cert.FinalSIdeal.Gen.frame m ρ, Cert.FinalSEq.frame_reference,
    fun m ρ _ => Cert.Qp.Gen.frame m ρ, fun m ρ _ => Cert.QpIdeal.Gen.frame m ρ, Cert.QpEq.frame_reference,
    fun m ρ _ => Cert.Uv.Gen.frame m ρ, fun m ρ _ => Cert.UvIdeal.Gen.frame m ρ, Cert.UvEq.frame_reference,
    fun m ρ _ => Cert.Km.Gen.frame m ρ, fun m ρ _ => Cert.KmIdeal.Gen.frame m ρ, Cert.KmEq.frame_reference,
    ⟨IdealRules.named_const.statement Cert.KernelIdeal.κ "mask" .f32 0xF149F2CA#32 ⊥ rfl,
      IdealRules.named_const.statement Cert.KernelIdeal.κ "scale2" .f32 0x3DD53B95#32 (((Real.sqrt 192)⁻¹ * (Real.log 2)⁻¹ : ℝ) : EReal) rfl⟩,
    algebraic,
    trivial, Cert.NormEq.algebraic,
    trivial, Cert.GatesEq.algebraic,
    trivial, Cert.MergeEq.algebraic,
    trivial, Cert.OutProjEq.algebraic,
    trivial, Cert.QbEq.algebraic,
    trivial, Cert.KvEq.algebraic,
    trivial, Cert.CqEq.algebraic,
    trivial, Cert.CkrEq.algebraic,
    trivial, Cert.FinalPEq.algebraic,
    trivial, Cert.FinalSEq.algebraic,
    trivial, Cert.QpEq.algebraic,
    trivial, Cert.UvEq.algebraic,
    trivial, Cert.KmEq.algebraic⟩

end Cert.Proof

end
